-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_in_range [hPre_entries_in_range : Cert.Pre_entries_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_entries_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_entries_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_entries_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_entries_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_entries_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_entries_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_in_range [hPre_entries_in_range : Cert.Pre_entries_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_entries_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_entries_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_entries_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_entries_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_entries_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_entries_in_range [hKernelIdeal : Cert.KernelIdeal.Facts] [hPre_entries_in_range : Cert.Pre_entries_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_entries_in_range [hReferenceIdeal : Cert.ReferenceIdeal.Facts] [hPre_entries_in_range : Cert.Pre_entries_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_entries_in_range [hKernelIdeal : Cert.KernelIdeal.Facts] [hReferenceIdeal : Cert.ReferenceIdeal.Facts] [hPre_entries_in_range : Cert.Pre_entries_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_entries_in_range : Cert.Pre_entries_in_range.Facts),
    quiescent_Kernel (hKernel := hKernel)
    ∧ quiescent_KernelIdeal (hKernelIdeal := hKernelIdeal)
    ∧ quiescent_KernelIdeal_pre_entries_in_range (hKernelIdeal := hKernelIdeal) (hPre_entries_in_range := hPre_entries_in_range)
    ∧ quiescent_ReferenceIdeal (hReferenceIdeal := hReferenceIdeal)
    ∧ quiescent_ReferenceIdeal_pre_entries_in_range (hReferenceIdeal := hReferenceIdeal) (hPre_entries_in_range := hPre_entries_in_range)
    ∧ preserves_Kernel_KernelIdeal
    ∧ algebraic_KernelIdeal_ReferenceIdeal_pre_entries_in_range (hKernelIdeal := hKernelIdeal) (hReferenceIdeal := hReferenceIdeal) (hPre_entries_in_range := hPre_entries_in_range)
-- ==== Pre_entries_in_range.lean ====
abbrev S4096x4760x2 : Shape := ⟨3, ![4096, 4760, 2]⟩
abbrev S4096x4760 : Shape := ⟨2, ![4096, 4760]⟩
abbrev S4096x256x2 : Shape := ⟨3, ![4096, 256, 2]⟩
abbrev S4096x256 : Shape := ⟨2, ![4096, 256]⟩
abbrev S4096x128x2 : Shape := ⟨3, ![4096, 128, 2]⟩
abbrev S4096x128 : Shape := ⟨2, ![4096, 128]⟩
abbrev S4096x64x2 : Shape := ⟨3, ![4096, 64, 2]⟩
abbrev S4096x64 : Shape := ⟨2, ![4096, 64]⟩
abbrev S4092 : Shape := ⟨1, ![4092]⟩
abbrev S334 : Shape := ⟨1, ![334]⟩
abbrev S_ : Shape := ⟨0, ![]⟩

class Facts : Prop where
  bcast_S_S4096x128 : S_.BroadcastsInDim S4096x128 (![] : Fin 0 → Fin S4096x128.rank)
  bcast_S_S4092 : S_.BroadcastsInDim S4092 (![] : Fin 0 → Fin S4092.rank)
  bcast_S_S334 : S_.BroadcastsInDim S334 (![] : Fin 0 → Fin S334.rank)

variable [Facts]

def fn {F : FTy → Type} [FloatOps F] (main_arg0 : FVec F S4096x4760x2 .f32) (main_arg1 : IVec S4096x4760 1) (main_arg2 : FVec F S4096x256x2 .f32) (main_arg3 : IVec S4096x256x2 32) (main_arg4 : IVec S4096x256 1) (main_arg5 : FVec F S4096x128x2 .f32) (main_arg6 : IVec S4096x128 32) (main_arg7 : IVec S4096x128 1) (main_arg8 : FVec F S4096x64x2 .f32) (main_arg9 : IVec S4096x64 32) (main_arg10 : IVec S4096x64 1) (main_arg11 : IVec S4092 32) (main_arg12 : IVec S334 32) : IVec S4096x256 1 × IVec S4096x128 1 × IVec S4096x64 1 × IVec S4096x128 1 × IVec S4092 1 × IVec S334 1 :=
  let main_c : IVec S_ 32 := constantI S_ 32 0#32
  let main_v0 : IVec S4096x128 32 := broadcastInDim S4096x128 ![] bcast_S_S4096x128 main_c
  let main_v1 : IVec S4096x128 1 := cmpi .sge main_arg6 main_v0
  let main_c_0 : IVec S_ 32 := constantI S_ 32 4760#32
  let main_v2 : IVec S4096x128 32 := broadcastInDim S4096x128 ![] bcast_S_S4096x128 main_c_0
  let main_v3 : IVec S4096x128 1 := cmpi .slt main_arg6 main_v2
  let main_v4 : IVec S4096x128 1 := andi main_v1 main_v3
  let main_c_1 : IVec S_ 32 := constantI S_ 32 0#32
  let main_v5 : IVec S4092 32 := broadcastInDim S4092 ![] bcast_S_S4092 main_c_1
  let main_v6 : IVec S4092 1 := cmpi .sge main_arg11 main_v5
  let main_c_2 : IVec S_ 32 := constantI S_ 32 4760#32
  let main_v7 : IVec S4092 32 := broadcastInDim S4092 ![] bcast_S_S4092 main_c_2
  let main_v8 : IVec S4092 1 := cmpi .slt main_arg11 main_v7
  let main_v9 : IVec S4092 1 := andi main_v6 main_v8
  let main_c_3 : IVec S_ 32 := constantI S_ 32 0#32
  let main_v10 : IVec S334 32 := broadcastInDim S334 ![] bcast_S_S334 main_c_3
  let main_v11 : IVec S334 1 := cmpi .sge main_arg12 main_v10
  let main_c_4 : IVec S_ 32 := constantI S_ 32 4760#32
  let main_v12 : IVec S334 32 := broadcastInDim S334 ![] bcast_S_S334 main_c_4
  let main_v13 : IVec S334 1 := cmpi .slt main_arg12 main_v12
  let main_v14 : IVec S334 1 := andi main_v11 main_v13
  (main_arg4, main_arg7, main_arg10, main_v4, main_v9, main_v14)
-- ==== Kernel.lean ====
abbrev S4096x4760x2 : Shape := ⟨3, ![4096, 4760, 2]⟩
abbrev S4096x4760 : Shape := ⟨2, ![4096, 4760]⟩
abbrev S4096x256x2 : Shape := ⟨3, ![4096, 256, 2]⟩
abbrev S4096x256 : Shape := ⟨2, ![4096, 256]⟩
abbrev S4096x128x2 : Shape := ⟨3, ![4096, 128, 2]⟩
abbrev S4096x128 : Shape := ⟨2, ![4096, 128]⟩
abbrev S4096x64x2 : Shape := ⟨3, ![4096, 64, 2]⟩
abbrev S4096x64 : Shape := ⟨2, ![4096, 64]⟩
abbrev S4092 : Shape := ⟨1, ![4092]⟩
abbrev S334 : Shape := ⟨1, ![334]⟩
abbrev S4096x9520 : Shape := ⟨2, ![4096, 9520]⟩
abbrev S4096x512 : Shape := ⟨2, ![4096, 512]⟩
abbrev S9520 : Shape := ⟨1, ![9520]⟩
abbrev S512 : Shape := ⟨1, ![512]⟩
abbrev S128 : Shape := ⟨1, ![128]⟩
abbrev S256 : Shape := ⟨1, ![256]⟩
abbrev S64 : Shape := ⟨1, ![64]⟩
abbrev S_ : Shape := ⟨0, ![]⟩
abbrev S16 : Shape := ⟨1, ![16]⟩
abbrev S1x9520 : Shape := ⟨2, ![1, 9520]⟩
abbrev S1x512 : Shape := ⟨2, ![1, 512]⟩
abbrev S1x128 : Shape := ⟨2, ![1, 128]⟩
abbrev S1x256 : Shape := ⟨2, ![1, 256]⟩
abbrev S1x64 : Shape := ⟨2, ![1, 64]⟩

abbrev nBuf : Table → Nat
  | .hbm => 20
  | .local .scVector .vmem => 9
  | _ => 0

abbrev bufTy : (tb : Table) → Fin (nBuf tb) → BufTy
  | .hbm, ⟨0, _⟩ => ⟨S4096x4760x2, .f32⟩
  | .hbm, ⟨1, _⟩ => ⟨S4096x4760, .i1⟩
  | .hbm, ⟨2, _⟩ => ⟨S4096x256x2, .f32⟩
  | .hbm, ⟨3, _⟩ => ⟨S4096x256x2, .i32⟩
  | .hbm, ⟨4, _⟩ => ⟨S4096x256, .i1⟩
  | .hbm, ⟨5, _⟩ => ⟨S4096x128x2, .f32⟩
  | .hbm, ⟨6, _⟩ => ⟨S4096x128, .i32⟩
  | .hbm, ⟨7, _⟩ => ⟨S4096x128, .i1⟩
  | .hbm, ⟨8, _⟩ => ⟨S4096x64x2, .f32⟩
  | .hbm, ⟨9, _⟩ => ⟨S4096x64, .i32⟩
  | .hbm, ⟨10, _⟩ => ⟨S4096x64, .i1⟩
  | .hbm, ⟨11, _⟩ => ⟨S4092, .i32⟩
  | .hbm, ⟨12, _⟩ => ⟨S334, .i32⟩
  | .hbm, ⟨13, _⟩ => ⟨S4096x9520, .f32⟩
  | .hbm, ⟨14, _⟩ => ⟨S4096x512, .i32⟩
  | .hbm, ⟨15, _⟩ => ⟨S4096x512, .f32⟩
  | .hbm, ⟨16, _⟩ => ⟨S4096x256, .f32⟩
  | .hbm, ⟨17, _⟩ => ⟨S4096x128, .f32⟩
  | .hbm, ⟨18, _⟩ => ⟨S4096x9520, .f32⟩
  | .hbm, ⟨19, _⟩ => ⟨S4096x4760x2, .f32⟩
  | .local .scVector .vmem, ⟨0, _⟩ => ⟨S9520, .f32⟩
  | .local .scVector .vmem, ⟨1, _⟩ => ⟨S512, .i32⟩
  | .local .scVector .vmem, ⟨2, _⟩ => ⟨S512, .f32⟩
  | .local .scVector .vmem, ⟨3, _⟩ => ⟨S128, .i32⟩
  | .local .scVector .vmem, ⟨4, _⟩ => ⟨S256, .f32⟩
  | .local .scVector .vmem, ⟨5, _⟩ => ⟨S64, .i32⟩
  | .local .scVector .vmem, ⟨6, _⟩ => ⟨S128, .f32⟩
  | .local .scVector .vmem, ⟨7, _⟩ => ⟨S4092, .i32⟩
  | .local .scVector .vmem, ⟨8, _⟩ => ⟨S334, .i32⟩
  | _, _ => ⟨S4096x4760x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v0_scv : Ref sig .scVector := ⟨.hbm, 13, rfl⟩
abbrev main_v1_scv : Ref sig .scVector := ⟨.hbm, 14, rfl⟩
abbrev main_v2_scv : Ref sig .scVector := ⟨.hbm, 15, rfl⟩
abbrev main_arg6_scv : Ref sig .scVector := ⟨.hbm, 6, rfl⟩
abbrev main_v3_scv : Ref sig .scVector := ⟨.hbm, 16, rfl⟩
abbrev main_arg9_scv : Ref sig .scVector := ⟨.hbm, 9, rfl⟩
abbrev main_v4_scv : Ref sig .scVector := ⟨.hbm, 17, rfl⟩
abbrev main_arg11_scv : Ref sig .scVector := ⟨.hbm, 11, rfl⟩
abbrev main_arg12_scv : Ref sig .scVector := ⟨.hbm, 12, rfl⟩
abbrev main_v5_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_12 : BitVec 32 := 0#32
  let c128_i32_13 : BitVec 32 := 128#32
  let v44 : BitVec 32 := Scalar.addi c0_i32_12 c128_i32_13
  let c1_i32_14 : BitVec 32 := 1#32
  ⟨c0_i32_12, v44, c1_i32_14⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let c1_i32_14 : BitVec 32 := 1#32
  let arg21 : BitVec 32 := Scf.iv c0_i32_12 c1_i32_14 k0_t1
  let v45 : BitVec 32 := Scalar.addi v2 arg21
  let c0_i32_28_r2 : BitVec 32 := 0#32
  ![v45.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let c1_i32_14 : BitVec 32 := 1#32
  let arg21 : BitVec 32 := Scf.iv c0_i32_12 c1_i32_14 k0_t1
  let v45 : BitVec 32 := Scalar.addi v2 arg21
  let c0_i32_28_r3 : BitVec 32 := 0#32
  ![v45.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let c1_i32_14 : BitVec 32 := 1#32
  let arg21 : BitVec 32 := Scf.iv c0_i32_12 c1_i32_14 k0_t1
  let v45 : BitVec 32 := Scalar.addi v2 arg21
  let c0_i32_28_r5 : BitVec 32 := 0#32
  ![v45.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let c1_i32_14 : BitVec 32 := 1#32
  let arg21 : BitVec 32 := Scf.iv c0_i32_12 c1_i32_14 k0_t1
  let v45 : BitVec 32 := Scalar.addi v2 arg21
  let c0_i32_28_r6 : BitVec 32 := 0#32
  ![v45.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let c1_i32_14 : BitVec 32 := 1#32
  let arg21 : BitVec 32 := Scf.iv c0_i32_12 c1_i32_14 k0_t1
  let v45 : BitVec 32 := Scalar.addi v2 arg21
  let c0_i32_28_r7 : BitVec 32 := 0#32
  ![v45.toNat, 0]
@[reducible] def k0_t2_loop : Scf.Loop 32 :=
  let c0_i32_17 : BitVec 32 := 0#32
  let c32_i32 : BitVec 32 := 32#32
  let v46 : BitVec 32 := Scalar.addi c0_i32_17 c32_i32
  let c1_i32_18 : BitVec 32 := 1#32
  ⟨c0_i32_17, v46, c1_i32_18⟩

def k0_chk1 (v53 : IVec S16 32) : Prop :=
  (∀ a x, ((![v53] : Fin 1 → IVec S16 32) a x).toNat < S512.size a)
theorem k0_idx1_inb : ∀ (v53 : IVec S16 32) (k0_hw1 : k0_chk1 v53), ∀ a x, ((![v53] : Fin 1 → IVec S16 32) a x).toNat < S512.size a := fun v53 k0_hw1 => k0_hw1

def k0_chk2 (v58 : IVec S16 32) : Prop :=
  (∀ a x, ((![v58] : Fin 1 → IVec S16 32) a x).toNat < S512.size a)
theorem k0_idx2_inb : ∀ (v58 : IVec S16 32) (k0_hw2 : k0_chk2 v58), ∀ a x, ((![v58] : Fin 1 → IVec S16 32) a x).toNat < S512.size a := fun v58 k0_hw2 => k0_hw2

def k0_chk3 (v66 : IVec S16 32) : Prop :=
  (∀ a x, ((![v66] : Fin 1 → IVec S16 32) a x).toNat < S4092.size a)
theorem k0_idx3_inb : ∀ (v66 : IVec S16 32) (k0_hw3 : k0_chk3 v66), ∀ a x, ((![v66] : Fin 1 → IVec S16 32) a x).toNat < S4092.size a := fun v66 k0_hw3 => k0_hw3
def k0_off6 (k0_t2 : Fin k0_t2_loop.trips) : Fin 1 → Nat :=
  let c0_i32_17 : BitVec 32 := 0#32
  let c1_i32_18 : BitVec 32 := 1#32
  let arg22 : BitVec 32 := Scf.iv c0_i32_17 c1_i32_18 k0_t2
  let c16_i32_34 : BitVec 32 := 16#32
  let v72 : BitVec 32 := Scalar.muli arg22 c16_i32_34
  let v73 : Index := Scalar.indexCast v72
  ![v73.toNat]

def k0_chk4 (v77 : IVec S16 32) : Prop :=
  (∀ a x, ((![v77] : Fin 1 → IVec S16 32) a x).toNat < S9520.size a)
theorem k0_idx4_inb : ∀ (v77 : IVec S16 32) (k0_hw4 : k0_chk4 v77), ∀ a x, ((![v77] : Fin 1 → IVec S16 32) a x).toNat < S9520.size a := fun v77 k0_hw4 => k0_hw4
@[reducible] def k0_t3_loop : Scf.Loop 32 :=
  let c0_i32_21 : BitVec 32 := 0#32
  let c16_i32 : BitVec 32 := 16#32
  let v47 : BitVec 32 := Scalar.addi c0_i32_21 c16_i32
  let c1_i32_22 : BitVec 32 := 1#32
  ⟨c0_i32_21, v47, c1_i32_22⟩

def k0_chk5 (v51 : IVec S16 32) : Prop :=
  (∀ a x, ((![v51] : Fin 1 → IVec S16 32) a x).toNat < S128.size a)
theorem k0_idx5_inb : ∀ (v51 : IVec S16 32) (k0_hw5 : k0_chk5 v51), ∀ a x, ((![v51] : Fin 1 → IVec S16 32) a x).toNat < S128.size a := fun v51 k0_hw5 => k0_hw5
def k0_off7 (k0_t3 : Fin k0_t3_loop.trips) : Fin 1 → Nat :=
  let c0_i32_21 : BitVec 32 := 0#32
  let c1_i32_22 : BitVec 32 := 1#32
  let arg22 : BitVec 32 := Scf.iv c0_i32_21 c1_i32_22 k0_t3
  let c16_i32_30 : BitVec 32 := 16#32
  let v57 : BitVec 32 := Scalar.muli arg22 c16_i32_30
  let v58 : Index := Scalar.indexCast v57
  ![v58.toNat]

def k0_chk6 (v62 : IVec S16 32) : Prop :=
  (∀ a x, ((![v62] : Fin 1 → IVec S16 32) a x).toNat < S9520.size a)
theorem k0_idx6_inb : ∀ (v62 : IVec S16 32) (k0_hw6 : k0_chk6 v62), ∀ a x, ((![v62] : Fin 1 → IVec S16 32) a x).toNat < S9520.size a := fun v62 k0_hw6 => k0_hw6
@[reducible] def k0_t4_loop : Scf.Loop 32 :=
  let c0_i32_25 : BitVec 32 := 0#32
  let c8_i32 : BitVec 32 := 8#32
  let v48 : BitVec 32 := Scalar.addi c0_i32_25 c8_i32
  let c1_i32_26 : BitVec 32 := 1#32
  ⟨c0_i32_25, v48, c1_i32_26⟩

def k0_chk7 (v51 : IVec S16 32) : Prop :=
  (∀ a x, ((![v51] : Fin 1 → IVec S16 32) a x).toNat < S64.size a)
theorem k0_idx7_inb : ∀ (v51 : IVec S16 32) (k0_hw7 : k0_chk7 v51), ∀ a x, ((![v51] : Fin 1 → IVec S16 32) a x).toNat < S64.size a := fun v51 k0_hw7 => k0_hw7

def k0_chk8 (v56 : IVec S16 32) : Prop :=
  (∀ a x, ((![v56] : Fin 1 → IVec S16 32) a x).toNat < S334.size a)
theorem k0_idx8_inb : ∀ (v56 : IVec S16 32) (k0_hw8 : k0_chk8 v56), ∀ a x, ((![v56] : Fin 1 → IVec S16 32) a x).toNat < S334.size a := fun v56 k0_hw8 => k0_hw8
def k0_off8 (k0_t4 : Fin k0_t4_loop.trips) : Fin 1 → Nat :=
  let c0_i32_25 : BitVec 32 := 0#32
  let c1_i32_26 : BitVec 32 := 1#32
  let arg22 : BitVec 32 := Scf.iv c0_i32_25 c1_i32_26 k0_t4
  let c16_i32_31 : BitVec 32 := 16#32
  let v62 : BitVec 32 := Scalar.muli arg22 c16_i32_31
  let v63 : Index := Scalar.indexCast v62
  ![v63.toNat]

def k0_chk9 (v67 : IVec S16 32) : Prop :=
  (∀ a x, ((![v67] : Fin 1 → IVec S16 32) a x).toNat < S9520.size a)
theorem k0_idx9_inb : ∀ (v67 : IVec S16 32) (k0_hw9 : k0_chk9 v67), ∀ a x, ((![v67] : Fin 1 → IVec S16 32) a x).toNat < S9520.size a := fun v67 k0_hw9 => k0_hw9
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4760x2 : Shape := ⟨3, ![4096, 4760, 2]⟩
abbrev S4096x4760 : Shape := ⟨2, ![4096, 4760]⟩
abbrev S4096x256x2 : Shape := ⟨3, ![4096, 256, 2]⟩
abbrev S4096x256 : Shape := ⟨2, ![4096, 256]⟩
abbrev S4096x128x2 : Shape := ⟨3, ![4096, 128, 2]⟩
abbrev S4096x128 : Shape := ⟨2, ![4096, 128]⟩
abbrev S4096x64x2 : Shape := ⟨3, ![4096, 64, 2]⟩
abbrev S4096x64 : Shape := ⟨2, ![4096, 64]⟩
abbrev S4092 : Shape := ⟨1, ![4092]⟩
abbrev S334 : Shape := ⟨1, ![334]⟩
abbrev S4096x256x1 : Shape := ⟨3, ![4096, 256, 1]⟩
abbrev S_ : Shape := ⟨0, ![]⟩
abbrev S4096 : Shape := ⟨1, ![4096]⟩
abbrev S4096x1 : Shape := ⟨2, ![4096, 1]⟩
abbrev S1048576 : Shape := ⟨1, ![1048576]⟩
abbrev S1048576x2 : Shape := ⟨2, ![1048576, 2]⟩
abbrev S1048576x1 : Shape := ⟨2, ![1048576, 1]⟩
abbrev S524288 : Shape := ⟨1, ![524288]⟩
abbrev S524288x2 : Shape := ⟨2, ![524288, 2]⟩
abbrev S524288x1 : Shape := ⟨2, ![524288, 1]⟩
abbrev S4096x64x1 : Shape := ⟨3, ![4096, 64, 1]⟩
abbrev S262144 : Shape := ⟨1, ![262144]⟩
abbrev S262144x2 : Shape := ⟨2, ![262144, 2]⟩
abbrev S262144x1 : Shape := ⟨2, ![262144, 1]⟩

abbrev nBuf : Space → Nat
  | .hbm => 159
  | .vmem => 0
  | .smem => 0
  | _ => 0

abbrev hbmTy0_0 (i : Nat) : BufTy := match i % 128 with
  | 0 => ⟨S4096x4760x2, .f32⟩
  | 1 => ⟨S4096x4760, .i1⟩
  | 2 => ⟨S4096x256x2, .f32⟩
  | 3 => ⟨S4096x256x2, .i32⟩
  | 4 => ⟨S4096x256, .i1⟩
  | 5 => ⟨S4096x128x2, .f32⟩
  | 6 => ⟨S4096x128, .i32⟩
  | 7 => ⟨S4096x128, .i1⟩
  | 8 => ⟨S4096x64x2, .f32⟩
  | 9 => ⟨S4096x64, .i32⟩
  | 10 => ⟨S4096x64, .i1⟩
  | 11 => ⟨S4092, .i32⟩
  | 12 => ⟨S334, .i32⟩
  | 13 => ⟨S4096x256x1, .i32⟩
  | 14 => ⟨S4096x256, .i32⟩
  | 15 => ⟨S4096x256x1, .i32⟩
  | 16 => ⟨S4096x256, .i32⟩
  | 17 => ⟨S_, .i32⟩
  | 18 => ⟨S4096x256, .i32⟩
  | 19 => ⟨S4096x256, .i32⟩
  | 20 => ⟨S4096x256, .i32⟩
  | 21 => ⟨S_, .i32⟩
  | 22 => ⟨S_, .i32⟩
  | 23 => ⟨S_, .i32⟩
  | 24 => ⟨S4096x256, .i32⟩
  | 25 => ⟨S4096x256, .i32⟩
  | 26 => ⟨S_, .i32⟩
  | 27 => ⟨S4096x256, .i32⟩
  | 28 => ⟨S4096x256, .i32⟩
  | 29 => ⟨S_, .i32⟩
  | 30 => ⟨S4096x256, .i32⟩
  | 31 => ⟨S4096x256, .i1⟩
  | 32 => ⟨S_, .i32⟩
  | 33 => ⟨S4096x256, .i32⟩
  | 34 => ⟨S4096x256, .i32⟩
  | 35 => ⟨S4096x256, .i32⟩
  | 36 => ⟨S4096x256x1, .i32⟩
  | 37 => ⟨S4096x256, .i32⟩
  | 38 => ⟨S_, .i32⟩
  | 39 => ⟨S4096x256, .i32⟩
  | 40 => ⟨S4096x256, .i1⟩
  | 41 => ⟨S4096x256, .i1⟩
  | 42 => ⟨S_, .i32⟩
  | 43 => ⟨S4096x256, .i32⟩
  | 44 => ⟨S4096x256, .i1⟩
  | 45 => ⟨S4096x256, .i1⟩
  | 46 => ⟨S_, .i32⟩
  | 47 => ⟨S_, .i32⟩
  | 48 => ⟨S4096x256, .i32⟩
  | 49 => ⟨S4096x256, .i32⟩
  | 50 => ⟨S4096, .i32⟩
  | 51 => ⟨S4096x1, .i32⟩
  | 52 => ⟨S4096x256, .i32⟩
  | 53 => ⟨S1048576, .i32⟩
  | 54 => ⟨S1048576, .i32⟩
  | 55 => ⟨S1048576x2, .f32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S1048576x1, .i32⟩
  | 71 => ⟨S1048576x1, .i32⟩
  | 72 => ⟨S1048576x2, .i32⟩
  | 73 => ⟨S4096x4760x2, .f32⟩
  | 74 => ⟨S_, .i32⟩
  | 75 => ⟨S4096x128, .i32⟩
  | 76 => ⟨S4096x128, .i1⟩
  | 77 => ⟨S4096x128, .i1⟩
  | 78 => ⟨S_, .i32⟩
  | 79 => ⟨S4096x128, .i32⟩
  | 80 => ⟨S4096x128, .i1⟩
  | 81 => ⟨S4096x128, .i1⟩
  | 82 => ⟨S_, .i32⟩
  | 83 => ⟨S_, .i32⟩
  | 84 => ⟨S4096x128, .i32⟩
  | 85 => ⟨S4096x128, .i32⟩
  | 86 => ⟨S4096, .i32⟩
  | 87 => ⟨S4096x1, .i32⟩
  | 88 => ⟨S4096x128, .i32⟩
  | 89 => ⟨S524288, .i32⟩
  | 90 => ⟨S524288, .i32⟩
  | 91 => ⟨S524288x2, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S_, .i32⟩
  | 100 => ⟨S524288, .i32⟩
  | 101 => ⟨S524288, .i1⟩
  | 102 => ⟨S_, .i32⟩
  | 103 => ⟨S524288, .i32⟩
  | 104 => ⟨S524288, .i32⟩
  | 105 => ⟨S524288, .i32⟩
  | 106 => ⟨S524288x1, .i32⟩
  | 107 => ⟨S524288x1, .i32⟩
  | 108 => ⟨S524288x2, .i32⟩
  | 109 => ⟨S4096x4760x2, .f32⟩
  | 110 => ⟨S_, .i32⟩
  | 111 => ⟨S_, .i32⟩
  | 112 => ⟨S_, .i32⟩
  | 113 => ⟨S4096x64, .i32⟩
  | 114 => ⟨S4096x64, .i32⟩
  | 115 => ⟨S_, .i32⟩
  | 116 => ⟨S4096x64, .i32⟩
  | 117 => ⟨S4096x64, .i32⟩
  | 118 => ⟨S_, .i32⟩
  | 119 => ⟨S4096x64, .i32⟩
  | 120 => ⟨S4096x64, .i1⟩
  | 121 => ⟨S_, .i32⟩
  | 122 => ⟨S4096x64, .i32⟩
  | 123 => ⟨S4096x64, .i32⟩
  | 124 => ⟨S4096x64, .i32⟩
  | 125 => ⟨S4096x64x1, .i32⟩
  | 126 => ⟨S4096x64, .i32⟩
  | 127 => ⟨S_, .i32⟩
  | _ => ⟨S4096x4760x2, .f32⟩

abbrev hbmTy0_1 (i : Nat) : BufTy := match i % 128 with
  | 0 => ⟨S4096x64, .i32⟩
  | 1 => ⟨S4096x64, .i1⟩
  | 2 => ⟨S4096x64, .i1⟩
  | 3 => ⟨S_, .i32⟩
  | 4 => ⟨S_, .i32⟩
  | 5 => ⟨S4096x64, .i32⟩
  | 6 => ⟨S4096x64, .i32⟩
  | 7 => ⟨S4096, .i32⟩
  | 8 => ⟨S4096x1, .i32⟩
  | 9 => ⟨S4096x64, .i32⟩
  | 10 => ⟨S262144, .i32⟩
  | 11 => ⟨S262144, .i32⟩
  | 12 => ⟨S262144x2, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S262144x1, .i32⟩
  | 29 => ⟨S262144x2, .i32⟩
  | 30 => ⟨S4096x4760x2, .f32⟩
  | _ => ⟨S4096x4760x2, .f32⟩

abbrev hbmTy (i : Nat) : BufTy := match i / 128 with
  | 0 => hbmTy0_0 i
  | 1 => hbmTy0_1 i
  | _ => ⟨S4096x4760x2, .f32⟩

abbrev bufTy : (tb : Table) → Fin (tcTables nBuf tb) → BufTy
  | .hbm, ⟨i, _⟩ => hbmTy i
  | _, _ => ⟨S4096x4760x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_call1_v0 : Ref sig .tc := ⟨.hbm, 47, rfl⟩
abbrev main_call1_v1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_v29 : Ref sig .tc := ⟨.hbm, 58, rfl⟩
abbrev main_c_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_9 : Ref sig .tc := ⟨.hbm, 63, rfl⟩
abbrev main_v33 : Ref sig .tc := ⟨.hbm, 64, rfl⟩
abbrev main_v34 : Ref sig .tc := ⟨.hbm, 65, rfl⟩
abbrev main_c_10 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_12 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_13 : Ref sig .tc := ⟨.hbm, 82, rfl⟩
abbrev main_call2_v0 : Ref sig .tc := ⟨.hbm, 83, rfl⟩
abbrev main_call2_v1 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_14 : Ref sig .tc := ⟨.hbm, 92, rfl⟩
abbrev main_v55 : Ref sig .tc := ⟨.hbm, 93, rfl⟩
abbrev main_v56 : Ref sig .tc := ⟨.hbm, 94, rfl⟩
abbrev main_c_15 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_16 : Ref sig .tc := ⟨.hbm, 99, rfl⟩
abbrev main_v60 : Ref sig .tc := ⟨.hbm, 100, rfl⟩
abbrev main_v61 : Ref sig .tc := ⟨.hbm, 101, rfl⟩
abbrev main_c_17 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_18 : Ref sig .tc := ⟨.hbm, 110, rfl⟩
abbrev main_c_19 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v69 : Ref sig .tc := ⟨.hbm, 117, rfl⟩
abbrev main_c_20 : Ref sig .tc := ⟨.hbm, 118, rfl⟩
abbrev main_v70 : Ref sig .tc := ⟨.hbm, 119, rfl⟩
abbrev main_v71 : Ref sig .tc := ⟨.hbm, 120, rfl⟩
abbrev main_c_21 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_22 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_23 : Ref sig .tc := ⟨.hbm, 131, rfl⟩
abbrev main_call4_v0 : Ref sig .tc := ⟨.hbm, 132, rfl⟩
abbrev main_call4_v1 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_24 : Ref sig .tc := ⟨.hbm, 141, rfl⟩
abbrev main_v87 : Ref sig .tc := ⟨.hbm, 142, rfl⟩
abbrev main_v88 : Ref sig .tc := ⟨.hbm, 143, rfl⟩
abbrev main_c_25 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_26 : Ref sig .tc := ⟨.hbm, 148, rfl⟩
abbrev main_v92 : Ref sig .tc := ⟨.hbm, 149, rfl⟩
abbrev main_v93 : Ref sig .tc := ⟨.hbm, 150, rfl⟩
abbrev main_c_27 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩

abbrev nD : Nat := 1
abbrev τ : Topo := Topo.v7x

variable {F : FTy → Type} [FloatOps F]
-- ==== Proof.Spec.lean ====
/-
  What one event's row becomes, as plain functions: a row of 9520 numbers is overwritten by three lists of entries, each
  entry naming a sensor and giving its two numbers. The lists are taken in order, and within a list the entries are; where
  several name one sensor, the last stays. Nothing here names a program.
-/
module

public import Idealize.ShloMosaic.PureOps
public import Idealize.ShloMosaic.Lib.LaneScatter.Defs
public import Idealize.ShloMosaic.Lib.LaneScatter.Pure
public import Idealize.ShloMosaic.Lib.Routing.OpsSet
public import Idealize.ShloMosaic.Lib.ValueIdxCore

@[expose] public section

noncomputable section

namespace Cert.Sensors

open Idealize.ShloMosaic Idealize.ShloMosaic.ValueIdx Idealize.ShloMosaic.LaneScatter

/-- A vector read at a natural number, taken modulo its length. -/
def at1 {α : Type} {N : ℕ} [NeZero N] (f : (⟨1, ![N]⟩ : Shape).Idx → α) (n : ℕ) : α := f (ix1 (Fin.ofNat N n))

/-- A vector's element at an index, by `at1`. -/
theorem at1_val {α : Type} {N : ℕ} [NeZero N] (f : (⟨1, ![N]⟩ : Shape).Idx → α) (i : Fin N) : at1 f i.val = f (ix1 i) := by
  unfold at1; exact congrArg (fun k => f (ix1 k)) (Fin.ext (Nat.mod_eq_of_lt i.isLt))

theorem at1_eq {α : Type} {N : ℕ} [NeZero N] (f : (⟨1, ![N]⟩ : Shape).Idx → α) (j : (⟨1, ![N]⟩ : Shape).Idx) (n : ℕ)
    (h : (j 0).val = n) : f j = at1 f n := by
  subst h; rw [eq_ix1 j]; exact (at1_val f (j 0)).symm

/-- A word read signed and brought into `[0, hi]`. -/
def clipN (hi : ℕ) (w : BitVec 32) : ℕ := min hi w.toInt.toNat

theorem clipN_le (hi : ℕ) (w : BitVec 32) : clipN hi w ≤ hi := Nat.min_le_left _ _

/-- The signed maximum with zero and then the signed minimum with `hi`, as a number. -/
theorem toNat_clip (hi : ℕ) (hhi : hi < 2 ^ 31) (w : BitVec 32) :
    (IntOp.minsi (BitVec.ofNat 32 hi) (IntOp.maxsi 0#32 w)).toNat = clipN hi w := by
  have h1 : (BitVec.ofNat 32 hi).toNat = hi := by rw [BitVec.toNat_ofNat]; omega
  have h2 : (BitVec.ofNat 32 hi).toInt = hi := by
    rw [BitVec.toInt_eq_toNat_cond, h1]; split <;> omega
  have hw := BitVec.toInt_eq_toNat_cond w
  have hlt := w.isLt
  unfold IntOp.minsi IntOp.maxsi clipN
  simp only [BitVec.slt_eq_decide, h2, decide_eq_true_eq, BitVec.toInt_zero]
  by_cases hw0 : w.toInt < 0
  · rw [if_pos hw0]
    have e : w.toInt.toNat = 0 := by omega
    simp only [BitVec.toInt_zero, e]
    split
    · next h => exact absurd h (by omega)
    · simp
  · rw [if_neg hw0]
    split at hw
    · next hc =>
      split
      · next h => rw [h1]; omega
      · next h => omega
    · omega

/-! ## Where each entry's numbers go -/

/-- Number `n` of the first list: its entry is `n / 2`, whose pair of words names a place of the table `tab`, which holds the sensor. -/
def innerDest (ii tab : ℕ → BitVec 32) (n : ℕ) : ℕ :=
  2 * clipN 4759 (tab (clipN 4091 (ii (2 * (n / 2)) * 44#32 + ii (2 * (n / 2) + 1)))) + n % 2

/-- Number `n` of the second list: the entry's word is the sensor. -/
def outerDest (os : ℕ → BitVec 32) (n : ℕ) : ℕ := 2 * clipN 4759 (os (n / 2)) + n % 2

/-- Number `n` of the third list: the entry's word names a place of the table `tab`, which holds the sensor. -/
def topDest (ti tab : ℕ → BitVec 32) (n : ℕ) : ℕ := 2 * clipN 4759 (tab (clipN 333 (ti (n / 2)))) + n % 2

/-- The row after the first `n` numbers of a list are stored, each over what is there. -/
def rowPut {α : Type} (dest : ℕ → ℕ) (val : ℕ → α) (f : (⟨1, ![9520]⟩ : Shape).Idx → α) (n : ℕ) : (⟨1, ![9520]⟩ : Shape).Idx → α :=
  fun j => lastHit (fun e => dest e = (j 0).val) val (f j) n

theorem rowPut_zero {α : Type} (dest : ℕ → ℕ) (val : ℕ → α) (f : (⟨1, ![9520]⟩ : Shape).Idx → α) : rowPut dest val f 0 = f := rfl

/-- Sixteen more numbers stored by one indexed store. -/
theorem storeIdx_rowPut {F : FTy → Type} [FloatOps F] {e : EltTy} (dest : ℕ → ℕ) (val : ℕ → Elt F e) (f : Vec F ⟨1, ![9520]⟩ e) (n : ℕ)
    (idx : IVec ⟨1, ![16]⟩ 32) (v : Vec F ⟨1, ![16]⟩ e) (h : ∀ a x, ((![idx] : Fin 1 → IVec ⟨1, ![16]⟩ 32) a x).toNat < (⟨1, ![9520]⟩ : Shape).size a)
    (hd : ∀ l : Fin 16, (idx (ix1 l)).toNat = dest (n + l.val)) (hv : ∀ l : Fin 16, v (ix1 l) = val (n + l.val)) :
    storeIdx (F := F) (s := ⟨1, ![9520]⟩) (rowPut dest val f n) ![idx] v (fun _ => 1#1) false h = rowPut dest val f (n + 16) := by
  funext j
  show storeIdx (F := F) (s := ⟨1, ![9520]⟩) (rowPut dest val f n) ![idx] v (fun _ => 1#1) false h j
    = lastHit (fun e => dest e = (j 0).val) val (f j) (n + 16)
  rw [lastHit_add]
  change _ = lastHit _ _ (rowPut dest val f n j) 16
  rw [← Routing.foldl_finRange_lastHit]
  have step : ∀ (r : (⟨1, ![9520]⟩ : Shape).Idx → Elt F e) (k : Fin 16),
      (if (∀ a : Fin 1, (j a).val = (idxAt (s := ⟨1, ![9520]⟩) (![idx] : Fin 1 → IVec ⟨1, ![16]⟩ 32) h (ix1 k) a).val) then v (ix1 k) else r j)
        = if dest (n + k.val) = (j 0).val then val (n + k.val) else r j := by
    intro r k
    rw [hv k]
    refine if_congr ⟨fun q => (hd k).symm.trans (q 0).symm, fun q a => ?_⟩ rfl rfl
    match a with
    | ⟨0, _⟩ => exact (q.symm.trans (hd k).symm)
  unfold storeIdx
  refine (List.foldl_hom (fun r : (⟨1, ![9520]⟩ : Shape).Idx → Elt F e => r j) fun r (k : Fin 16) => ?_).symm
  have hx : (Shape.ofLane (d := ![16]) k : (⟨1, ![16]⟩ : Shape).Idx) = ix1 k := by
    funext a; match a with | ⟨0, _⟩ => rfl
  refine (step r k).symm.trans ?_
  rw [← hx]
  beta_reduce
  rw [if_pos (show (1#1 : BitVec 1) = 1 from rfl)]
  dsimp only
  split
  · split
    · next c => exact absurd c Bool.false_ne_true
    · rfl
  · rfl

/-- The row at the end: the three lists stored one after the other. -/
def rowOut {α : Type} (x : (⟨1, ![9520]⟩ : Shape).Idx → α) (ii : (⟨1, ![512]⟩ : Shape).Idx → BitVec 32) (ip : (⟨1, ![512]⟩ : Shape).Idx → α)
    (os : (⟨1, ![128]⟩ : Shape).Idx → BitVec 32) (op : (⟨1, ![256]⟩ : Shape).Idx → α) (ti : (⟨1, ![64]⟩ : Shape).Idx → BitVec 32)
    (tp : (⟨1, ![128]⟩ : Shape).Idx → α) (itab : (⟨1, ![4092]⟩ : Shape).Idx → BitVec 32) (ttab : (⟨1, ![334]⟩ : Shape).Idx → BitVec 32) :
    (⟨1, ![9520]⟩ : Shape).Idx → α :=
  rowPut (topDest (at1 ti) (at1 ttab)) (at1 tp)
    (rowPut (outerDest (at1 os)) (at1 op) (rowPut (innerDest (at1 ii) (at1 itab)) (at1 ip) x 512) 256) 128

end Cert.Sensors

end
-- ==== Proof.Words.lean ====
/-
  The index vectors the kernel computes, as numbers: lane `l` of trip `t` handles number `16 t + l` of its list.
-/
module

public import proofs.«01_k».proof.Proof.Spec
public import proofs.«01_k».proof.Proof.Gen.KernelIdeal
public import proofs.«01_k».proof.Proof.Gen.KernelIdeal.Skeleton

@[expose] public section

noncomputable section

namespace Cert.Sensors

open Cert.KernelIdeal Cert.KernelIdeal.Gen
open Idealize.ShloMosaic Idealize.ShloMosaic.ValueIdx

variable {F : FTy → Type} [FloatOps F]

/-- Lane `l`'s entry within its group of eight: `l / 2`. -/
theorem half_eq (l : Fin 16) : k0_pay12 (ix1 l) = BitVec.ofNat 32 (l.val / 2) := by
  revert l; decide +kernel

/-- The lane's parity vector. -/
abbrev par : IVec S16 32 := k0_pay1 (Scalar.select (Scalar.cmpi .eq 2#32 0#32) 1#32 2#32) k0_pay13 k0_pay14 k0_pay15 k0_pay16

/-- Lane `l`'s number within its entry: `l % 2`. -/
theorem par_eq (l : Fin 16) : par (ix1 l) = BitVec.ofNat 32 (l.val % 2) := by
  revert l; decide +kernel

theorem toNat_base (t n : ℕ) (ht : t < 128) (hn : n < 8) :
    (IntOp.addi (IntOp.muli (Scf.iv 0#32 1#32 t) 8#32) (BitVec.ofNat 32 n)).toNat = 8 * t + n := by
  simp only [Scf.iv, IntOp.addi, IntOp.muli, BitVec.toNat_add, BitVec.toNat_mul, BitVec.toNat_ofNat]
  omega

/-- An index vector whose every lane is below `N` passes the check of an array of `N`. -/
theorem chk_of {N : ℕ} (v : IVec S16 32) (h : ∀ l : Fin 16, (v (ix1 l)).toNat < N) :
    ∀ a x, ((![v] : Fin 1 → IVec S16 32) a x).toNat < (⟨1, ![N]⟩ : Shape).size a := by
  intro a x
  match a with
  | ⟨0, _⟩ => rw [eq_ix1 x]; exact h (x 0)

/-- An indexed load at lane `l`: the array at the lane's index. -/
theorem loadIdx_at1 {e : EltTy} {N : ℕ} [NeZero N] (f : Vec F ⟨1, ![N]⟩ e) (v : IVec S16 32)
    (h : ∀ a x, ((![v] : Fin 1 → IVec S16 32) a x).toNat < (⟨1, ![N]⟩ : Shape).size a) (l : Fin 16) (n : ℕ) (hn : (v (ix1 l)).toNat = n) :
    loadIdx (F := F) (s := ⟨1, ![N]⟩) f ![v] h (ix1 l) = at1 f n :=
  at1_eq f _ n hn

/-- The clipped word, doubled, plus the lane's parity. -/
theorem toNat_dest (w : BitVec 32) (l : Fin 16) :
    (IntOp.addi (IntOp.muli (IntOp.minsi 4759#32 (IntOp.maxsi 0#32 w)) 2#32) (par (ix1 l))).toNat = 2 * clipN 4759 w + l.val % 2 := by
  rw [par_eq]
  have h := toNat_clip 4759 (by decide) w
  have hb := clipN_le 4759 w
  simp only [IntOp.addi, IntOp.muli, BitVec.toNat_add, BitVec.toNat_mul, BitVec.toNat_ofNat, h]
  omega

theorem dest_lt (w : BitVec 32) (l : Fin 16) :
    (IntOp.addi (IntOp.muli (IntOp.minsi 4759#32 (IntOp.maxsi 0#32 w)) 2#32) (par (ix1 l))).toNat < 9520 := by
  rw [toNat_dest]; have := clipN_le 4759 w; omega

/-! ## The first list's trip -/

theorem pay3_eq (t : Fin k0_t2_loop.trips) (l : Fin 16) : (k0_pay3 k0_pay12 t (ix1 l)).toNat = 2 * ((16 * t.val + l.val) / 2) := by
  have ht : t.val < 32 := lt_of_lt_of_le t.isLt k0_t2_abs.2.1
  have hb := toNat_base t.val (l.val / 2) (by omega) (by omega)
  show (IntOp.muli (IntOp.addi (IntOp.muli (Scf.iv 0#32 1#32 t.val) 8#32) (k0_pay12 (ix1 l))) 2#32).toNat = _
  rw [half_eq, IntOp.muli, BitVec.toNat_mul, hb, BitVec.toNat_ofNat]; omega

theorem pay4_eq (t : Fin k0_t2_loop.trips) (l : Fin 16) : (k0_pay4 k0_pay12 t (ix1 l)).toNat = 2 * ((16 * t.val + l.val) / 2) + 1 := by
  have ht : t.val < 32 := lt_of_lt_of_le t.isLt k0_t2_abs.2.1
  have h3 := pay3_eq t l
  show (IntOp.addi (k0_pay3 k0_pay12 t (ix1 l)) 1#32).toNat = _
  rw [IntOp.addi, BitVec.toNat_add, h3, BitVec.toNat_ofNat]; omega

theorem chk1 (t : Fin k0_t2_loop.trips) : k0_chk1 (k0_pay3 k0_pay12 t) :=
  chk_of _ fun l => by have ht : t.val < 32 := lt_of_lt_of_le t.isLt k0_t2_abs.2.1; rw [pay3_eq]; omega
theorem chk2 (t : Fin k0_t2_loop.trips) : k0_chk2 (k0_pay4 k0_pay12 t) :=
  chk_of _ fun l => by have ht : t.val < 32 := lt_of_lt_of_le t.isLt k0_t2_abs.2.1; rw [pay4_eq]; omega
theorem pay5_eq (v w : Vec F S16 .i32) (l : Fin 16) : (k0_pay5 v w (ix1 l)).toNat = clipN 4091 (v (ix1 l) * 44#32 + w (ix1 l)) :=
  toNat_clip 4091 (by decide) (v (ix1 l) * 44#32 + w (ix1 l))
theorem chk3 (v w : Vec F S16 .i32) : k0_chk3 (k0_pay5 v w) :=
  chk_of _ fun l => by rw [pay5_eq]; exact lt_of_le_of_lt (clipN_le _ _) (by decide)
theorem chk4 (v : Vec F S16 .i32) : k0_chk4 (k0_pay6 par v) := chk_of _ fun l => dest_lt (v (ix1 l)) l

theorem inner_idx {ii ii₁ ii₂ : Vec F S512 .i32} {itab itab₁ : Vec F S4092 .i32} (e₁ : ii₁ = ii) (e₂ : ii₂ = ii) (e₃ : itab₁ = itab)
    (t : Fin k0_t2_loop.trips) (h1 h2 h3) (l : Fin 16) :
    (k0_pay6 par (loadIdx itab₁ ![k0_pay5 (loadIdx (t := S16) ii₁ ![k0_pay3 k0_pay12 t] h1) (loadIdx (t := S16) ii₂ ![k0_pay4 k0_pay12 t] h2)] h3) (ix1 l)).toNat
      = innerDest (at1 ii) (at1 itab) (16 * t.val + l.val) := by
  subst e₁ e₂ e₃
  refine (toNat_dest _ l).trans ?_
  unfold innerDest
  rw [loadIdx_at1 _ _ h3 l _ (pay5_eq _ _ l), loadIdx_at1 _ _ h1 l _ (pay3_eq t l), loadIdx_at1 _ _ h2 l _ (pay4_eq t l)]
  omega

/-! ## The second list's trip -/

theorem pay7_eq (t : Fin k0_t3_loop.trips) (l : Fin 16) : (k0_pay7 k0_pay12 t (ix1 l)).toNat = (16 * t.val + l.val) / 2 := by
  have ht : t.val < 16 := lt_of_lt_of_le t.isLt k0_t3_abs.2.1
  have hb := toNat_base t.val (l.val / 2) (by omega) (by omega)
  show (IntOp.addi (IntOp.muli (Scf.iv 0#32 1#32 t.val) 8#32) (k0_pay12 (ix1 l))).toNat = _
  rw [half_eq, hb]; omega

theorem chk5 (t : Fin k0_t3_loop.trips) : k0_chk5 (k0_pay7 k0_pay12 t) :=
  chk_of _ fun l => by have ht : t.val < 16 := lt_of_lt_of_le t.isLt k0_t3_abs.2.1; rw [pay7_eq]; omega
theorem chk6 (v : Vec F S16 .i32) : k0_chk6 (k0_pay8 par v) := chk_of _ fun l => dest_lt (v (ix1 l)) l

theorem outer_idx {os os₁ : Vec F S128 .i32} (e₁ : os₁ = os) (t : Fin k0_t3_loop.trips) (h1) (l : Fin 16) :
    (k0_pay8 par (loadIdx (t := S16) os₁ ![k0_pay7 k0_pay12 t] h1) (ix1 l)).toNat = outerDest (at1 os) (16 * t.val + l.val) := by
  subst e₁
  refine (toNat_dest _ l).trans ?_
  unfold outerDest
  rw [loadIdx_at1 _ _ h1 l _ (pay7_eq t l)]
  omega

/-! ## The third list's trip -/

theorem pay9_eq (t : Fin k0_t4_loop.trips) (l : Fin 16) : (k0_pay9 k0_pay12 t (ix1 l)).toNat = (16 * t.val + l.val) / 2 := by
  have ht : t.val < 8 := lt_of_lt_of_le t.isLt k0_t4_abs.2.1
  have hb := toNat_base t.val (l.val / 2) (by omega) (by omega)
  show (IntOp.addi (IntOp.muli (Scf.iv 0#32 1#32 t.val) 8#32) (k0_pay12 (ix1 l))).toNat = _
  rw [half_eq, hb]; omega

theorem chk7 (t : Fin k0_t4_loop.trips) : k0_chk7 (k0_pay9 k0_pay12 t) :=
  chk_of _ fun l => by have ht : t.val < 8 := lt_of_lt_of_le t.isLt k0_t4_abs.2.1; rw [pay9_eq]; omega
theorem pay10_eq (v : Vec F S16 .i32) (l : Fin 16) : (k0_pay10 v (ix1 l)).toNat = clipN 333 (v (ix1 l)) :=
  toNat_clip 333 (by decide) (v (ix1 l))
theorem chk8 (v : Vec F S16 .i32) : k0_chk8 (k0_pay10 v) :=
  chk_of _ fun l => by rw [pay10_eq]; exact lt_of_le_of_lt (clipN_le _ _) (by decide)
theorem chk9 (v : Vec F S16 .i32) : k0_chk9 (k0_pay11 par v) := chk_of _ fun l => dest_lt (v (ix1 l)) l

theorem top_idx {ti ti₁ : Vec F S64 .i32} {ttab ttab₁ : Vec F S334 .i32} (e₁ : ti₁ = ti) (e₂ : ttab₁ = ttab) (t : Fin k0_t4_loop.trips) (h1 h2) (l : Fin 16) :
    (k0_pay11 par (loadIdx (t := S16) ttab₁ ![k0_pay10 (loadIdx (t := S16) ti₁ ![k0_pay9 k0_pay12 t] h1)] h2) (ix1 l)).toNat
      = topDest (at1 ti) (at1 ttab) (16 * t.val + l.val) := by
  subst e₁ e₂
  refine (toNat_dest _ l).trans ?_
  unfold topDest
  rw [loadIdx_at1 _ _ h2 l _ (pay10_eq _ l), loadIdx_at1 _ _ h1 l _ (pay9_eq t l)]
  omega

end Cert.Sensors

end
-- ==== Proof.Setup.lean ====
/-
  The program as the launch theorem sees it, the arrays by location, and the names every later module shares.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Words

@[expose] public section

noncomputable section

namespace Cert.Sensors

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A vector subcore -/

abbrev cV (L : grid0.Coords) : Fin τ.nSC := (L 0).castLE hcore0
abbrev jV (L : grid0.Coords) : Fin τ.nSub := (L 1).castLE hsub0
/-- The subcore of coordinates `L` on device `d`. -/
abbrev tV (d : Dev nD) (L : grid0.Coords) : Thread nD τ := V d (cV L) (jV L)

end Cert.Sensors

end
-- ==== Proof.Trips.lean ====
/-
  The three inner loops of one row: each trip stores sixteen more numbers of its list into the row's buffer.
-/
module

public import proofs.«01_k».proof.Proof.Setup

@[expose] public section

noncomputable section

namespace Cert.Sensors

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

omit [FloatOps F] in
/-- The row's buffer, held through its whole-rectangle view, is the buffer held. -/
theorem pts_row (f : Vec F S9520 .f32) :
    (((Memref.whole cc0_scratch0 : Memref sig .scVector .vmem S9520 .f32).access (.whole S9520)).loc (tV d L)
        ↦[((Memref.whole cc0_scratch0 : Memref sig .scVector .vmem S9520 .f32).access (.whole S9520)).set]{fullShare} f : sProp 𝕄)
      = (tV d L).loc cc0_scratch0 ↦{fullShare} f := by
  rw [show ((Memref.whole cc0_scratch0 : Memref sig .scVector .vmem S9520 .f32).access (.whole S9520)).set = Finset.univ from
    Memref.set_access_whole (cc0_scratch0 : Ref sig .scVector)]

omit [FloatOps F] in
theorem read_ip (f : Vec F S512 .f32) (t : Fin k0_t2_loop.trips) (l : Fin 16) :
    (Memref.whole cc0_scratch2 : Memref sig .scVector .vmem S512 .f32).view.readAt (Elt F) (Rect.unit (s := S512) (k0_off6 t) S16.size (k0_off6_inb t)).toLoadRect f (ix1 l)
      = at1 (α := Elt F .f32) (N := 512) f (16 * t.val + l.val) := by
  refine at1_eq (α := Elt F .f32) (N := 512) f _ _ ?_
  show (k0_off6 t 0) + 1 * l.val = _
  rw [k0_off6_eq]; simp
omit [FloatOps F] in
theorem read_op (f : Vec F S256 .f32) (t : Fin k0_t3_loop.trips) (l : Fin 16) :
    (Memref.whole cc0_scratch4 : Memref sig .scVector .vmem S256 .f32).view.readAt (Elt F) (Rect.unit (s := S256) (k0_off7 t) S16.size (k0_off7_inb t)).toLoadRect f (ix1 l)
      = at1 (α := Elt F .f32) (N := 256) f (16 * t.val + l.val) := by
  refine at1_eq (α := Elt F .f32) (N := 256) f _ _ ?_
  show (k0_off7 t 0) + 1 * l.val = _
  rw [k0_off7_eq]; simp
omit [FloatOps F] in
theorem read_tp (f : Vec F S128 .f32) (t : Fin k0_t4_loop.trips) (l : Fin 16) :
    (Memref.whole cc0_scratch6 : Memref sig .scVector .vmem S128 .f32).view.readAt (Elt F) (Rect.unit (s := S128) (k0_off8 t) S16.size (k0_off8_inb t)).toLoadRect f (ix1 l)
      = at1 (α := Elt F .f32) (N := 128) f (16 * t.val + l.val) := by
  refine at1_eq (α := Elt F .f32) (N := 128) f _ _ ?_
  show (k0_off8 t 0) + 1 * l.val = _
  rw [k0_off8_eq]; simp

omit [FloatOps F] in
theorem acc_ii (f : Vec F S512 .i32) : (((Memref.whole cc0_scratch1 : Memref sig .scVector .vmem S512 .i32).access (.whole S512)).loc (tV d L) ↦{fullShare} f : sProp 𝕄) = (tV d L).loc cc0_scratch1 ↦{fullShare} f := rfl
omit [FloatOps F] in
theorem acc_itab (f : Vec F S4092 .i32) : (((Memref.whole cc0_scratch7 : Memref sig .scVector .vmem S4092 .i32).access (.whole S4092)).loc (tV d L) ↦{fullShare} f : sProp 𝕄) = (tV d L).loc cc0_scratch7 ↦{fullShare} f := rfl
omit [FloatOps F] in
theorem acc_os (f : Vec F S128 .i32) : (((Memref.whole cc0_scratch3 : Memref sig .scVector .vmem S128 .i32).access (.whole S128)).loc (tV d L) ↦{fullShare} f : sProp 𝕄) = (tV d L).loc cc0_scratch3 ↦{fullShare} f := rfl
omit [FloatOps F] in
theorem acc_ti (f : Vec F S64 .i32) : (((Memref.whole cc0_scratch5 : Memref sig .scVector .vmem S64 .i32).access (.whole S64)).loc (tV d L) ↦{fullShare} f : sProp 𝕄) = (tV d L).loc cc0_scratch5 ↦{fullShare} f := rfl
omit [FloatOps F] in
theorem acc_ttab (f : Vec F S334 .i32) : (((Memref.whole cc0_scratch8 : Memref sig .scVector .vmem S334 .i32).access (.whole S334)).loc (tV d L) ↦{fullShare} f : sProp 𝕄) = (tV d L).loc cc0_scratch8 ↦{fullShare} f := rfl
omit [FloatOps F] in
theorem view_ip (f : Vec F S512 .f32) : ((Memref.whole cc0_scratch2 : Memref sig .scVector .vmem S512 .f32).view.loc (tV d L) ↦{fullShare} f : sProp 𝕄) = (tV d L).loc cc0_scratch2 ↦{fullShare} f := rfl
omit [FloatOps F] in
theorem view_op (f : Vec F S256 .f32) : ((Memref.whole cc0_scratch4 : Memref sig .scVector .vmem S256 .f32).view.loc (tV d L) ↦{fullShare} f : sProp 𝕄) = (tV d L).loc cc0_scratch4 ↦{fullShare} f := rfl
omit [FloatOps F] in
theorem view_tp (f : Vec F S128 .f32) : ((Memref.whole cc0_scratch6 : Memref sig .scVector .vmem S128 .f32).view.loc (tV d L) ↦{fullShare} f : sProp 𝕄) = (tV d L).loc cc0_scratch6 ↦{fullShare} f := rfl

/-! ## The first list -/

/-- After `n` trips of the first loop: the row with `16 n` numbers of the first list stored; the list and its table as fetched. -/
def inv2 (x : Vec F S9520 .f32) (ii : Vec F S512 .i32) (ip : Vec F S512 .f32) (itab : Vec F S4092 .i32) (n : ℕ) (_ : Unit) : sProp 𝕄 :=
  iprop(((tV d L).loc cc0_scratch0 ↦{fullShare} (rowPut (innerDest (at1 ii) (at1 itab)) (at1 (α := Elt F .f32) (N := 512) ip) x (16 * n) : Vec F S9520 .f32))
    ∗ ((tV d L).loc cc0_scratch1 ↦{fullShare} ii) ∗ ((tV d L).loc cc0_scratch2 ↦{fullShare} ip) ∗ ((tV d L).loc cc0_scratch7 ↦{fullShare} itab))

theorem trip2 (x : Vec F S9520 .f32) (ii : Vec F S512 .i32) (ip : Vec F S512 .f32) (itab : Vec F S4092 .i32)
    (t1 : Fin k0_t1_loop.trips) (k : Fin k0_t2_loop.trips) (u : Unit) :
    inv2 d L x ii ip itab k.val u
      ⊢ wp frame (wpE (defs₀ (F := F)) 𝒱₀ (tV d L) none) Set.univ
          (k0_t2_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 k0_pay12 par t1 k u)
          (inv2 d L x ii ip itab (k.val + 1)) := by
  unfold inv2 k0_t2_body
  iintro ⟨Hx, Hi, Hp, Ht⟩
  simp only [Prog.lift, Prog.bind_op, Prog.bind_ret, Prog.pure_eq_ret]
  rw [wp_assume_of _ _ _ _ (chk1 k)]
  ihave Hi := (Entails.of_eq (acc_ii d L ii).symm) $$ Hi
  iapply (SparseCore.wp_vectorLoadIdx 𝒱₀ (tV d L) none Set.univ (base := (Memref.whole cc0_scratch1 : Memref sig .scVector .vmem S512 .i32)) (S := Finset.univ) (q := fullShare) (Finset.subset_univ _)) $$ Hi
  iintro Hi
  rw [wp_assume_of _ _ _ _ (chk2 k)]
  iapply (SparseCore.wp_vectorLoadIdx 𝒱₀ (tV d L) none Set.univ (base := (Memref.whole cc0_scratch1 : Memref sig .scVector .vmem S512 .i32)) (S := Finset.univ) (q := fullShare) (Finset.subset_univ _)) $$ Hi
  iintro Hi
  rw [wp_assume_of _ _ _ _ (chk3 _ _)]
  ihave Ht := (Entails.of_eq (acc_itab d L itab).symm) $$ Ht
  iapply (SparseCore.wp_vectorLoadIdx 𝒱₀ (tV d L) none Set.univ (base := (Memref.whole cc0_scratch7 : Memref sig .scVector .vmem S4092 .i32)) (S := Finset.univ) (q := fullShare) (Finset.subset_univ _)) $$ Ht
  iintro Ht
  ihave Hp := (Entails.of_eq (view_ip d L ip).symm) $$ Hp
  iapply (wp_load 𝒱₀ (tV d L) none Set.univ (m := (Memref.whole cc0_scratch2 : Memref sig .scVector .vmem S512 .f32)) (S := Finset.univ) (Finset.subset_univ _)) $$ Hp
  iintro Hp
  rw [wp_assume_of _ _ _ _ (chk4 _)]
  ihave Hx := (Entails.of_eq (pts_row d L _).symm) $$ Hx
  iapply (SparseCore.wp_vectorStoreIdx 𝒱₀ (tV d L) none Set.univ (base := (Memref.whole cc0_scratch0 : Memref sig .scVector .vmem S9520 .f32))) $$ Hx
  iintro Hx
  rw [wp_ret]; imodintro
  simp only [Memref.write_access_whole_univ, Memref.read_access_whole]
  rw [storeIdx_rowPut (F := F) (e := .f32) (innerDest (at1 ii) (at1 itab)) (at1 (α := Elt F .f32) (N := 512) ip) x (16 * k.val), Nat.mul_succ]
  · isplitl [Hx]; · iapply (Entails.of_eq (pts_row d L _)); iexact Hx
    isplitl [Hi]; · iexact Hi
    isplitl [Hp]; · iexact Hp
    iexact Ht
  · exact inner_idx (Memref.read_access_whole (Elt F) (cc0_scratch1 : Ref sig .scVector) ii) (Memref.read_access_whole (Elt F) (cc0_scratch1 : Ref sig .scVector) ii) (Memref.read_access_whole (Elt F) (cc0_scratch7 : Ref sig .scVector) itab) k _ _ _
  · exact read_ip ip k

/-- The first loop, whole. -/
theorem loop2 (x : Vec F S9520 .f32) (ii : Vec F S512 .i32) (ip : Vec F S512 .f32) (itab : Vec F S4092 .i32) (t1 : Fin k0_t1_loop.trips) :
    inv2 d L x ii ip itab 0 ⟨⟩
      ⊢ wp frame (wpE (defs₀ (F := F)) 𝒱₀ (tV d L) none) Set.univ
          (Scf.Loop.for k0_t2_loop k0_t2_ok ⟨⟩ (k0_t2_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 k0_pay12 par t1))
          (inv2 d L x ii ip itab 32) := by
  refine BIBase.Entails.trans ?_ (Scf.wp_for frame (wpE (defs₀ (F := F)) 𝒱₀ (tV d L) none) Set.univ _ _ _ k0_t2_ok ⟨⟩ _
    (inv2 d L x ii ip itab) (trip2 d L x ii ip itab t1))
  refine sep_emp.2.trans (sep_mono .rfl ?_)
  iintro -
  iintro %u H
  iexact H

/-! ## The second list -/

/-- After `n` trips of the second loop: the row with `16 n` numbers of the second list stored; the list as fetched. -/
def inv3 (x : Vec F S9520 .f32) (os : Vec F S128 .i32) (op : Vec F S256 .f32) (n : ℕ) (_ : Unit) : sProp 𝕄 :=
  iprop(((tV d L).loc cc0_scratch0 ↦{fullShare} (rowPut (outerDest (at1 os)) (at1 (α := Elt F .f32) (N := 256) op) x (16 * n) : Vec F S9520 .f32))
    ∗ ((tV d L).loc cc0_scratch3 ↦{fullShare} os) ∗ ((tV d L).loc cc0_scratch4 ↦{fullShare} op))

theorem trip3 (x : Vec F S9520 .f32) (os : Vec F S128 .i32) (op : Vec F S256 .f32)
    (t1 : Fin k0_t1_loop.trips) (k : Fin k0_t3_loop.trips) (u : Unit) :
    inv3 d L x os op k.val u
      ⊢ wp frame (wpE (defs₀ (F := F)) 𝒱₀ (tV d L) none) Set.univ
          (k0_t3_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 k0_pay12 par t1 k u)
          (inv3 d L x os op (k.val + 1)) := by
  unfold inv3 k0_t3_body
  iintro ⟨Hx, Hi, Hp⟩
  simp only [Prog.lift, Prog.bind_op, Prog.bind_ret, Prog.pure_eq_ret]
  rw [wp_assume_of _ _ _ _ (chk5 k)]
  ihave Hi := (Entails.of_eq (acc_os d L os).symm) $$ Hi
  iapply (SparseCore.wp_vectorLoadIdx 𝒱₀ (tV d L) none Set.univ (base := (Memref.whole cc0_scratch3 : Memref sig .scVector .vmem S128 .i32)) (S := Finset.univ) (q := fullShare) (Finset.subset_univ _)) $$ Hi
  iintro Hi
  ihave Hp := (Entails.of_eq (view_op d L op).symm) $$ Hp
  iapply (wp_load 𝒱₀ (tV d L) none Set.univ (m := (Memref.whole cc0_scratch4 : Memref sig .scVector .vmem S256 .f32)) (S := Finset.univ) (Finset.subset_univ _)) $$ Hp
  iintro Hp
  rw [wp_assume_of _ _ _ _ (chk6 _)]
  ihave Hx := (Entails.of_eq (pts_row d L _).symm) $$ Hx
  iapply (SparseCore.wp_vectorStoreIdx 𝒱₀ (tV d L) none Set.univ (base := (Memref.whole cc0_scratch0 : Memref sig .scVector .vmem S9520 .f32))) $$ Hx
  iintro Hx
  rw [wp_ret]; imodintro
  simp only [Memref.write_access_whole_univ, Memref.read_access_whole]
  rw [storeIdx_rowPut (F := F) (e := .f32) (outerDest (at1 os)) (at1 (α := Elt F .f32) (N := 256) op) x (16 * k.val), Nat.mul_succ]
  · isplitl [Hx]; · iapply (Entails.of_eq (pts_row d L _)); iexact Hx
    isplitl [Hi]; · iexact Hi
    iexact Hp
  · exact outer_idx (Memref.read_access_whole (Elt F) (cc0_scratch3 : Ref sig .scVector) os) k _
  · exact read_op op k

/-- The second loop, whole. -/
theorem loop3 (x : Vec F S9520 .f32) (os : Vec F S128 .i32) (op : Vec F S256 .f32) (t1 : Fin k0_t1_loop.trips) :
    inv3 d L x os op 0 ⟨⟩
      ⊢ wp frame (wpE (defs₀ (F := F)) 𝒱₀ (tV d L) none) Set.univ
          (Scf.Loop.for k0_t3_loop k0_t3_ok ⟨⟩ (k0_t3_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 k0_pay12 par t1))
          (inv3 d L x os op 16) := by
  refine BIBase.Entails.trans ?_ (Scf.wp_for frame (wpE (defs₀ (F := F)) 𝒱₀ (tV d L) none) Set.univ _ _ _ k0_t3_ok ⟨⟩ _
    (inv3 d L x os op) (trip3 d L x os op t1))
  refine sep_emp.2.trans (sep_mono .rfl ?_)
  iintro -
  iintro %u H
  iexact H

/-! ## The third list -/

/-- After `n` trips of the third loop: the row with `16 n` numbers of the third list stored; the list and its table as fetched. -/
def inv4 (x : Vec F S9520 .f32) (ti : Vec F S64 .i32) (tp : Vec F S128 .f32) (ttab : Vec F S334 .i32) (n : ℕ) (_ : Unit) : sProp 𝕄 :=
  iprop(((tV d L).loc cc0_scratch0 ↦{fullShare} (rowPut (topDest (at1 ti) (at1 ttab)) (at1 (α := Elt F .f32) (N := 128) tp) x (16 * n) : Vec F S9520 .f32))
    ∗ ((tV d L).loc cc0_scratch5 ↦{fullShare} ti) ∗ ((tV d L).loc cc0_scratch6 ↦{fullShare} tp) ∗ ((tV d L).loc cc0_scratch8 ↦{fullShare} ttab))

theorem trip4 (x : Vec F S9520 .f32) (ti : Vec F S64 .i32) (tp : Vec F S128 .f32) (ttab : Vec F S334 .i32)
    (t1 : Fin k0_t1_loop.trips) (k : Fin k0_t4_loop.trips) (u : Unit) :
    inv4 d L x ti tp ttab k.val u
      ⊢ wp frame (wpE (defs₀ (F := F)) 𝒱₀ (tV d L) none) Set.univ
          (k0_t4_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 k0_pay12 par t1 k u)
          (inv4 d L x ti tp ttab (k.val + 1)) := by
  unfold inv4 k0_t4_body
  iintro ⟨Hx, Hi, Hp, Ht⟩
  simp only [Prog.lift, Prog.bind_op, Prog.bind_ret, Prog.pure_eq_ret]
  rw [wp_assume_of _ _ _ _ (chk7 k)]
  ihave Hi := (Entails.of_eq (acc_ti d L ti).symm) $$ Hi
  iapply (SparseCore.wp_vectorLoadIdx 𝒱₀ (tV d L) none Set.univ (base := (Memref.whole cc0_scratch5 : Memref sig .scVector .vmem S64 .i32)) (S := Finset.univ) (q := fullShare) (Finset.subset_univ _)) $$ Hi
  iintro Hi
  rw [wp_assume_of _ _ _ _ (chk8 _)]
  ihave Ht := (Entails.of_eq (acc_ttab d L ttab).symm) $$ Ht
  iapply (SparseCore.wp_vectorLoadIdx 𝒱₀ (tV d L) none Set.univ (base := (Memref.whole cc0_scratch8 : Memref sig .scVector .vmem S334 .i32)) (S := Finset.univ) (q := fullShare) (Finset.subset_univ _)) $$ Ht
  iintro Ht
  ihave Hp := (Entails.of_eq (view_tp d L tp).symm) $$ Hp
  iapply (wp_load 𝒱₀ (tV d L) none Set.univ (m := (Memref.whole cc0_scratch6 : Memref sig .scVector .vmem S128 .f32)) (S := Finset.univ) (Finset.subset_univ _)) $$ Hp
  iintro Hp
  rw [wp_assume_of _ _ _ _ (chk9 _)]
  ihave Hx := (Entails.of_eq (pts_row d L _).symm) $$ Hx
  iapply (SparseCore.wp_vectorStoreIdx 𝒱₀ (tV d L) none Set.univ (base := (Memref.whole cc0_scratch0 : Memref sig .scVector .vmem S9520 .f32))) $$ Hx
  iintro Hx
  rw [wp_ret]; imodintro
  simp only [Memref.write_access_whole_univ, Memref.read_access_whole]
  rw [storeIdx_rowPut (F := F) (e := .f32) (topDest (at1 ti) (at1 ttab)) (at1 (α := Elt F .f32) (N := 128) tp) x (16 * k.val), Nat.mul_succ]
  · isplitl [Hx]; · iapply (Entails.of_eq (pts_row d L _)); iexact Hx
    isplitl [Hi]; · iexact Hi
    isplitl [Hp]; · iexact Hp
    iexact Ht
  · exact top_idx (Memref.read_access_whole (Elt F) (cc0_scratch5 : Ref sig .scVector) ti) (Memref.read_access_whole (Elt F) (cc0_scratch8 : Ref sig .scVector) ttab) k _ _
  · exact read_tp tp k

/-- The third loop, whole. -/
theorem loop4 (x : Vec F S9520 .f32) (ti : Vec F S64 .i32) (tp : Vec F S128 .f32) (ttab : Vec F S334 .i32) (t1 : Fin k0_t1_loop.trips) :
    inv4 d L x ti tp ttab 0 ⟨⟩
      ⊢ wp frame (wpE (defs₀ (F := F)) 𝒱₀ (tV d L) none) Set.univ
          (Scf.Loop.for k0_t4_loop k0_t4_ok ⟨⟩ (k0_t4_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 k0_pay12 par t1))
          (inv4 d L x ti tp ttab 8) := by
  refine BIBase.Entails.trans ?_ (Scf.wp_for frame (wpE (defs₀ (F := F)) 𝒱₀ (tV d L) none) Set.univ _ _ _ k0_t4_ok ⟨⟩ _
    (inv4 d L x ti tp ttab) (trip4 d L x ti tp ttab t1))
  refine sep_emp.2.trans (sep_mono .rfl ?_)
  iintro -
  iintro %u H
  iexact H

end Cert.Sensors

end
-- ==== Proof.Rows.lean ====
/-
  The rows of the arrays as a subcore's copies name them: trip `t` of subcore `(c, s)` works on row `256 s + 128 c + t`.
-/
module

public import proofs.«01_k».proof.Proof.Trips

@[expose] public section

noncomputable section

namespace Cert.Sensors

open Cert.KernelIdeal Cert.KernelIdeal.Gen

open Idealize.ShloMosaic Idealize.ShloMosaic.ValueIdx

variable {F : FTy → Type}

/-! ## One row of a matrix -/

/-- Row `r` of a matrix, as a vector. -/
def line {α : Type} {n : ℕ} (X : (⟨2, ![4096, n]⟩ : Shape).Idx → α) (r : Fin 4096) : (⟨1, ![n]⟩ : Shape).Idx → α := fun j => X (ix2 r (j 0))

/-- Where the slice of row `r`, its unit axis dropped, places element `j`. -/
theorem emb_line {κ : Kind} {sp : Space} {e : EltTy} {n : ℕ} (v : View sig κ sp ⟨2, ![4096, n]⟩ e) (off : Fin 2 → ℕ)
    (inb : ∀ a, off a + (![1, n] : Fin 2 → ℕ) a ≤ (![4096, n] : Fin 2 → ℕ) a) (h : (⟨1, ![n]⟩ : Shape).numel = (⟨2, ![1, n]⟩ : Shape).numel)
    (r : Fin 4096) (e0 : off 0 = r.val) (e1 : off 1 = 0) (j : (⟨1, ![n]⟩ : Shape).Idx) :
    ((v.slice (Rect.unit (s := ⟨2, ![4096, n]⟩) off ![1, n] inb)).reshape ⟨1, ![n]⟩ h).emb j = v.emb (ix2 r (j 0)) := by
  show v.emb ((Rect.unit (s := ⟨2, ![4096, n]⟩) off ![1, n] inb).emb (Shape.reshapeEquiv h j)) = _
  obtain ⟨y, rfl⟩ : ∃ y : Fin n, j = ix1 y := ⟨j 0, eq_ix1 j⟩
  rw [show Shape.reshapeEquiv h (ix1 y) = ix2 (⟨0, Nat.one_pos⟩ : Fin 1) y from Shape.reshapeEquiv_eq_of_rowMajor h (by
    rw [Shape.rowMajor_val_two, Shape.rowMajor_val_one]
    show 0 * n + y.val = y.val
    rw [Nat.zero_mul, Nat.zero_add])]
  refine congrArg v.emb (funext fun a => Fin.ext ?_)
  match a with
  | ⟨0, _⟩ => show off 0 + 1 * 0 = r.val; omega
  | ⟨1, _⟩ => show off 1 + 1 * y.val = y.val; omega

variable (L : grid0.Coords) (t : Fin k0_t1_loop.trips)

theorem row_lt : 256 * (L 1).val + 128 * (L 0).val + t.val < 4096 := by
  have h0 : (L 0).val < 2 := (L 0).isLt
  have h1 : (L 1).val < 16 := (L 1).isLt
  have h2 : t.val < 128 := lt_of_lt_of_le t.isLt k0_t1_abs.2.1
  omega

/-- The row trip `t` works on. -/
def rowNo : Fin 4096 := ⟨256 * (L 1).val + 128 * (L 0).val + t.val, row_lt L t⟩

/-! ## The rows, as memrefs -/

abbrev xRow : Memref sig .scVector .hbm S9520 .f32 := ((Memref.whole main_v0_scv : Memref sig .scVector .hbm S4096x9520 .f32).slice (Rect.unit (s := S4096x9520) (k0_off1 L t) S1x9520.size (k0_off1_inb L t)) (fun _ => rfl)).squeeze S9520 squeezes_S1x9520_S9520
abbrev oRow : Memref sig .scVector .hbm S9520 .f32 := ((Memref.whole main_v5_scv : Memref sig .scVector .hbm S4096x9520 .f32).slice (Rect.unit (s := S4096x9520) (k0_off1 L t) S1x9520.size (k0_off1_inb L t)) (fun _ => rfl)).squeeze S9520 squeezes_S1x9520_S9520
abbrev iiRow : Memref sig .scVector .hbm S512 .i32 := ((Memref.whole main_v1_scv : Memref sig .scVector .hbm S4096x512 .i32).slice (Rect.unit (s := S4096x512) (k0_off2 L t) S1x512.size (k0_off2_inb L t)) (fun _ => rfl)).squeeze S512 squeezes_S1x512_S512
abbrev ipRow : Memref sig .scVector .hbm S512 .f32 := ((Memref.whole main_v2_scv : Memref sig .scVector .hbm S4096x512 .f32).slice (Rect.unit (s := S4096x512) (k0_off2 L t) S1x512.size (k0_off2_inb L t)) (fun _ => rfl)).squeeze S512 squeezes_S1x512_S512
abbrev osRow : Memref sig .scVector .hbm S128 .i32 := ((Memref.whole main_arg6_scv : Memref sig .scVector .hbm S4096x128 .i32).slice (Rect.unit (s := S4096x128) (k0_off3 L t) S1x128.size (k0_off3_inb L t)) (fun _ => rfl)).squeeze S128 squeezes_S1x128_S128
abbrev opRow : Memref sig .scVector .hbm S256 .f32 := ((Memref.whole main_v3_scv : Memref sig .scVector .hbm S4096x256 .f32).slice (Rect.unit (s := S4096x256) (k0_off4 L t) S1x256.size (k0_off4_inb L t)) (fun _ => rfl)).squeeze S256 squeezes_S1x256_S256
abbrev tiRow : Memref sig .scVector .hbm S64 .i32 := ((Memref.whole main_arg9_scv : Memref sig .scVector .hbm S4096x64 .i32).slice (Rect.unit (s := S4096x64) (k0_off5 L t) S1x64.size (k0_off5_inb L t)) (fun _ => rfl)).squeeze S64 squeezes_S1x64_S64
abbrev tpRow : Memref sig .scVector .hbm S128 .f32 := ((Memref.whole main_v4_scv : Memref sig .scVector .hbm S4096x128 .f32).slice (Rect.unit (s := S4096x128) (k0_off3 L t) S1x128.size (k0_off3_inb L t)) (fun _ => rfl)).squeeze S128 squeezes_S1x128_S128

theorem read_xRow (X : Vec F S4096x9520 .f32) : (xRow L t).view.read (Elt F) X = line X (rowNo L t) := by
  funext j
  refine ((View.read_apply _ _).trans (cast_eq _ _)).trans (congrArg X ?_)
  exact emb_line ((Memref.whole main_v0_scv : Memref sig .scVector .hbm S4096x9520 .f32)).view (k0_off1 L t) (k0_off1_inb L t) _ (rowNo L t) (by rw [k0_off1_eq]; rfl) (by rw [k0_off1_eq]; rfl) j
theorem read_iiRow (X : Vec F S4096x512 .i32) : (iiRow L t).view.read (Elt F) X = line X (rowNo L t) := by
  funext j
  refine ((View.read_apply _ _).trans (cast_eq _ _)).trans (congrArg X ?_)
  exact emb_line ((Memref.whole main_v1_scv : Memref sig .scVector .hbm S4096x512 .i32)).view (k0_off2 L t) (k0_off2_inb L t) _ (rowNo L t) (by rw [k0_off2_eq]; rfl) (by rw [k0_off2_eq]; rfl) j
theorem read_ipRow (X : Vec F S4096x512 .f32) : (ipRow L t).view.read (Elt F) X = line X (rowNo L t) := by
  funext j
  refine ((View.read_apply _ _).trans (cast_eq _ _)).trans (congrArg X ?_)
  exact emb_line ((Memref.whole main_v2_scv : Memref sig .scVector .hbm S4096x512 .f32)).view (k0_off2 L t) (k0_off2_inb L t) _ (rowNo L t) (by rw [k0_off2_eq]; rfl) (by rw [k0_off2_eq]; rfl) j
theorem read_osRow (X : Vec F S4096x128 .i32) : (osRow L t).view.read (Elt F) X = line X (rowNo L t) := by
  funext j
  refine ((View.read_apply _ _).trans (cast_eq _ _)).trans (congrArg X ?_)
  exact emb_line ((Memref.whole main_arg6_scv : Memref sig .scVector .hbm S4096x128 .i32)).view (k0_off3 L t) (k0_off3_inb L t) _ (rowNo L t) (by rw [k0_off3_eq]; rfl) (by rw [k0_off3_eq]; rfl) j
theorem read_opRow (X : Vec F S4096x256 .f32) : (opRow L t).view.read (Elt F) X = line X (rowNo L t) := by
  funext j
  refine ((View.read_apply _ _).trans (cast_eq _ _)).trans (congrArg X ?_)
  exact emb_line ((Memref.whole main_v3_scv : Memref sig .scVector .hbm S4096x256 .f32)).view (k0_off4 L t) (k0_off4_inb L t) _ (rowNo L t) (by rw [k0_off4_eq]; rfl) (by rw [k0_off4_eq]; rfl) j
theorem read_tiRow (X : Vec F S4096x64 .i32) : (tiRow L t).view.read (Elt F) X = line X (rowNo L t) := by
  funext j
  refine ((View.read_apply _ _).trans (cast_eq _ _)).trans (congrArg X ?_)
  exact emb_line ((Memref.whole main_arg9_scv : Memref sig .scVector .hbm S4096x64 .i32)).view (k0_off5 L t) (k0_off5_inb L t) _ (rowNo L t) (by rw [k0_off5_eq]; rfl) (by rw [k0_off5_eq]; rfl) j
theorem read_tpRow (X : Vec F S4096x128 .f32) : (tpRow L t).view.read (Elt F) X = line X (rowNo L t) := by
  funext j
  refine ((View.read_apply _ _).trans (cast_eq _ _)).trans (congrArg X ?_)
  exact emb_line ((Memref.whole main_v4_scv : Memref sig .scVector .hbm S4096x128 .f32)).view (k0_off3 L t) (k0_off3_inb L t) _ (rowNo L t) (by rw [k0_off3_eq]; rfl) (by rw [k0_off3_eq]; rfl) j

/-- The elements of the result's row. -/
theorem mem_oRow (j : S4096x9520.Idx) : j ∈ (oRow L t).view.set ↔ j 0 = rowNo L t := by
  have hemb (y : S9520.Idx) : (oRow L t).view.emb y = ix2 (rowNo L t) (y 0) :=
    emb_line ((Memref.whole main_v5_scv : Memref sig .scVector .hbm S4096x9520 .f32)).view (k0_off1 L t) (k0_off1_inb L t) _ (rowNo L t) (by rw [k0_off1_eq]; rfl) (by rw [k0_off1_eq]; rfl) y
  constructor
  · intro h
    obtain ⟨y, -, rfl⟩ := Finset.mem_map.mp h
    rw [hemb]
  · intro h
    refine Finset.mem_map.mpr ⟨ix1 (j 1), Finset.mem_univ _, ?_⟩
    rw [hemb, ← h]; exact (eq_ix2 j).symm

/-- The result's row, written with `w`, holds what a matrix with row `w` there holds. -/
theorem write_oRow (f G : Vec F S4096x9520 .f32) (w : Vec F S9520 .f32) (hG : line G (rowNo L t) = w) :
    ∀ j ∈ (oRow L t).view.set, View.write (Elt F) (oRow L t).view f w Finset.univ j = G j := by
  intro j hj
  obtain ⟨y, -, rfl⟩ := Finset.mem_map.mp hj
  have hemb : (oRow L t).view.emb y = ix2 (rowNo L t) (y 0) :=
    emb_line ((Memref.whole main_v5_scv : Memref sig .scVector .hbm S4096x9520 .f32)).view (k0_off1 L t) (k0_off1_inb L t) _ (rowNo L t) (by rw [k0_off1_eq]; rfl) (by rw [k0_off1_eq]; rfl) y
  rw [View.write_emb_of_mem _ _ (Finset.mem_univ _)]
  refine (cast_eq _ _).trans ?_
  rw [hemb, ← hG]; rfl

end Cert.Sensors

end
-- ==== Proof.Row.lean ====
/-
  One trip of a subcore's loop: an event's row and its lists are copied in, the lists stored into the row, the row copied out.
-/
module

public import proofs.«01_k».proof.Proof.Rows

@[expose] public section

noncomputable section

namespace Cert.Sensors

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The nine arrays the subcores read, at their contents. -/
structure Arrays (F : FTy → Type) where
  x : Vec F S4096x9520 .f32
  ii : Vec F S4096x512 .i32
  ip : Vec F S4096x512 .f32
  os : Vec F S4096x128 .i32
  op : Vec F S4096x256 .f32
  ti : Vec F S4096x64 .i32
  tp : Vec F S4096x128 .f32
  itab : Vec F S4092 .i32
  ttab : Vec F S334 .i32

/-- The result: every row by its own lists. -/
def Arrays.out (A : Arrays F) : Vec F S4096x9520 .f32 := fun j =>
  rowOut (α := Elt F .f32) (line A.x (j 0)) (line A.ii (j 0)) (line A.ip (j 0)) (line A.os (j 0)) (line A.op (j 0)) (line A.ti (j 0)) (line A.tp (j 0))
    A.itab A.ttab (ix1 (j 1))

theorem Arrays.line_out (A : Arrays F) (r : Fin 4096) :
    line A.out r = rowOut (α := Elt F .f32) (line A.x r) (line A.ii r) (line A.ip r) (line A.os r) (line A.op r) (line A.ti r) (line A.tp r) A.itab A.ttab := by
  funext j; rw [eq_ix1 j]; rfl

variable (d : Dev nD) (L : grid0.Coords) (q : PosShare TreeShare) (A : Arrays F) (O : CellTallies nD τ sig (HIx 1)) (W : Waits sig (HIx 1))

/-- What a trip needs and gives back: shares of the seven arrays of rows, the seven buffers at any contents, the two tables
    as fetched, the eight semaphores at zero, and the record of waits. -/
def tripRes : sProp 𝕄 :=
  iprop(Transfers.MayWaits (tV d L) (none : HIx 1) O
    ∗ (((Memref.whole main_v0_scv : Memref sig .scVector .hbm S4096x9520 .f32)).view.loc (tV d L) ↦{q} A.x) ∗ (((Memref.whole main_v1_scv : Memref sig .scVector .hbm S4096x512 .i32)).view.loc (tV d L) ↦{q} A.ii) ∗ (((Memref.whole main_v2_scv : Memref sig .scVector .hbm S4096x512 .f32)).view.loc (tV d L) ↦{q} A.ip)
    ∗ (((Memref.whole main_arg6_scv : Memref sig .scVector .hbm S4096x128 .i32)).view.loc (tV d L) ↦{q} A.os) ∗ (((Memref.whole main_v3_scv : Memref sig .scVector .hbm S4096x256 .f32)).view.loc (tV d L) ↦{q} A.op) ∗ (((Memref.whole main_arg9_scv : Memref sig .scVector .hbm S4096x64 .i32)).view.loc (tV d L) ↦{q} A.ti)
    ∗ (((Memref.whole main_v4_scv : Memref sig .scVector .hbm S4096x128 .f32)).view.loc (tV d L) ↦{q} A.tp)
    ∗ (∃ f, ((Memref.whole cc0_scratch0 : Memref sig .scVector .vmem S9520 .f32)).view.loc (tV d L) ↦{fullShare} f) ∗ (∃ f, ((Memref.whole cc0_scratch1 : Memref sig .scVector .vmem S512 .i32)).view.loc (tV d L) ↦{fullShare} f) ∗ (∃ f, ((Memref.whole cc0_scratch2 : Memref sig .scVector .vmem S512 .f32)).view.loc (tV d L) ↦{fullShare} f)
    ∗ (∃ f, ((Memref.whole cc0_scratch3 : Memref sig .scVector .vmem S128 .i32)).view.loc (tV d L) ↦{fullShare} f) ∗ (∃ f, ((Memref.whole cc0_scratch4 : Memref sig .scVector .vmem S256 .f32)).view.loc (tV d L) ↦{fullShare} f) ∗ (∃ f, ((Memref.whole cc0_scratch5 : Memref sig .scVector .vmem S64 .i32)).view.loc (tV d L) ↦{fullShare} f)
    ∗ (∃ f, ((Memref.whole cc0_scratch6 : Memref sig .scVector .vmem S128 .f32)).view.loc (tV d L) ↦{fullShare} f)
    ∗ ((tV d L).loc cc0_scratch7 ↦{fullShare} A.itab) ∗ ((tV d L).loc cc0_scratch8 ↦{fullShare} A.ttab)
    ∗ semVal (tV d L, SemLoc.dma cc0_scoped2.sem) 0 ∗ semVal (tV d L, SemLoc.dma cc0_scoped3.sem) 0 ∗ semVal (tV d L, SemLoc.dma cc0_scoped4.sem) 0
    ∗ semVal (tV d L, SemLoc.dma cc0_scoped5.sem) 0 ∗ semVal (tV d L, SemLoc.dma cc0_scoped6.sem) 0 ∗ semVal (tV d L, SemLoc.dma cc0_scoped7.sem) 0
    ∗ semVal (tV d L, SemLoc.dma cc0_scoped8.sem) 0 ∗ semVal (tV d L, SemLoc.dma cc0_scoped9.sem) 0
    ∗ ∃ W', ⌜∀ p ∈ W', p ∈ W ∨ p.2 = none⌝ ∗ owes (tV d L) O W')

/-- The result's row of trip `t`, at `f`. -/
abbrev oPts (t : Fin k0_t1_loop.trips) (f : Vec F S4096x9520 .f32) : sProp 𝕄 :=
  (oRow L t).view.loc (tV d L) ↦[(oRow L t).view.set]{fullShare} f

theorem pts_sX (f : Vec F S9520 .f32) : (((Memref.whole cc0_scratch0 : Memref sig .scVector .vmem S9520 .f32)).view.loc (tV d L) ↦{fullShare} f : sProp 𝕄) = (tV d L).loc cc0_scratch0 ↦{fullShare} f := rfl
theorem pts_sII (f : Vec F S512 .i32) : (((Memref.whole cc0_scratch1 : Memref sig .scVector .vmem S512 .i32)).view.loc (tV d L) ↦{fullShare} f : sProp 𝕄) = (tV d L).loc cc0_scratch1 ↦{fullShare} f := rfl
theorem pts_sIP (f : Vec F S512 .f32) : (((Memref.whole cc0_scratch2 : Memref sig .scVector .vmem S512 .f32)).view.loc (tV d L) ↦{fullShare} f : sProp 𝕄) = (tV d L).loc cc0_scratch2 ↦{fullShare} f := rfl
theorem pts_sOS (f : Vec F S128 .i32) : (((Memref.whole cc0_scratch3 : Memref sig .scVector .vmem S128 .i32)).view.loc (tV d L) ↦{fullShare} f : sProp 𝕄) = (tV d L).loc cc0_scratch3 ↦{fullShare} f := rfl
theorem pts_sOP (f : Vec F S256 .f32) : (((Memref.whole cc0_scratch4 : Memref sig .scVector .vmem S256 .f32)).view.loc (tV d L) ↦{fullShare} f : sProp 𝕄) = (tV d L).loc cc0_scratch4 ↦{fullShare} f := rfl
theorem pts_sTI (f : Vec F S64 .i32) : (((Memref.whole cc0_scratch5 : Memref sig .scVector .vmem S64 .i32)).view.loc (tV d L) ↦{fullShare} f : sProp 𝕄) = (tV d L).loc cc0_scratch5 ↦{fullShare} f := rfl
theorem pts_sTP (f : Vec F S128 .f32) : (((Memref.whole cc0_scratch6 : Memref sig .scVector .vmem S128 .f32)).view.loc (tV d L) ↦{fullShare} f : sProp 𝕄) = (tV d L).loc cc0_scratch6 ↦{fullShare} f := rfl

/-! A buffer a copy has filled holds what the copy carried. -/

theorem land_sX (f w w' : Vec F S9520 .f32) (h : w = w') : (((Memref.whole cc0_scratch0 : Memref sig .scVector .vmem S9520 .f32)).view.loc (tV d L) ↦{fullShare} View.write (Elt F) ((Memref.whole cc0_scratch0 : Memref sig .scVector .vmem S9520 .f32)).view f w Finset.univ : sProp 𝕄)
    = (tV d L).loc cc0_scratch0 ↦{fullShare} w' := by subst h; simp only [Memref.view_whole, View.write_whole_univ]
theorem land_sII (f w w' : Vec F S512 .i32) (h : w = w') : (((Memref.whole cc0_scratch1 : Memref sig .scVector .vmem S512 .i32)).view.loc (tV d L) ↦{fullShare} View.write (Elt F) ((Memref.whole cc0_scratch1 : Memref sig .scVector .vmem S512 .i32)).view f w Finset.univ : sProp 𝕄)
    = (tV d L).loc cc0_scratch1 ↦{fullShare} w' := by subst h; simp only [Memref.view_whole, View.write_whole_univ]
theorem land_sIP (f w w' : Vec F S512 .f32) (h : w = w') : (((Memref.whole cc0_scratch2 : Memref sig .scVector .vmem S512 .f32)).view.loc (tV d L) ↦{fullShare} View.write (Elt F) ((Memref.whole cc0_scratch2 : Memref sig .scVector .vmem S512 .f32)).view f w Finset.univ : sProp 𝕄)
    = (tV d L).loc cc0_scratch2 ↦{fullShare} w' := by subst h; simp only [Memref.view_whole, View.write_whole_univ]
theorem land_sOS (f w w' : Vec F S128 .i32) (h : w = w') : (((Memref.whole cc0_scratch3 : Memref sig .scVector .vmem S128 .i32)).view.loc (tV d L) ↦{fullShare} View.write (Elt F) ((Memref.whole cc0_scratch3 : Memref sig .scVector .vmem S128 .i32)).view f w Finset.univ : sProp 𝕄)
    = (tV d L).loc cc0_scratch3 ↦{fullShare} w' := by subst h; simp only [Memref.view_whole, View.write_whole_univ]
theorem land_sOP (f w w' : Vec F S256 .f32) (h : w = w') : (((Memref.whole cc0_scratch4 : Memref sig .scVector .vmem S256 .f32)).view.loc (tV d L) ↦{fullShare} View.write (Elt F) ((Memref.whole cc0_scratch4 : Memref sig .scVector .vmem S256 .f32)).view f w Finset.univ : sProp 𝕄)
    = (tV d L).loc cc0_scratch4 ↦{fullShare} w' := by subst h; simp only [Memref.view_whole, View.write_whole_univ]
theorem land_sTI (f w w' : Vec F S64 .i32) (h : w = w') : (((Memref.whole cc0_scratch5 : Memref sig .scVector .vmem S64 .i32)).view.loc (tV d L) ↦{fullShare} View.write (Elt F) ((Memref.whole cc0_scratch5 : Memref sig .scVector .vmem S64 .i32)).view f w Finset.univ : sProp 𝕄)
    = (tV d L).loc cc0_scratch5 ↦{fullShare} w' := by subst h; simp only [Memref.view_whole, View.write_whole_univ]
theorem land_sTP (f w w' : Vec F S128 .f32) (h : w = w') : (((Memref.whole cc0_scratch6 : Memref sig .scVector .vmem S128 .f32)).view.loc (tV d L) ↦{fullShare} View.write (Elt F) ((Memref.whole cc0_scratch6 : Memref sig .scVector .vmem S128 .f32)).view f w Finset.univ : sProp 𝕄)
    = (tV d L).loc cc0_scratch6 ↦{fullShare} w' := by subst h; simp only [Memref.view_whole, View.write_whole_univ]

/-- The result's row, filled by a copy of a buffer that holds a matrix's row there, holds what the matrix holds. -/
theorem row_written (t : Fin k0_t1_loop.trips) (f G : Vec F S4096x9520 .f32) (w : Vec F S9520 .f32)
    (hw : w = ((Memref.whole cc0_scratch0 : Memref sig .scVector .vmem S9520 .f32)).view.read (Elt F) (line G (rowNo L t))) :
    ∀ j ∈ (oRow L t).view.set, (oRow L t).view.writes (Elt F) f [⟨Rect.whole S9520, w⟩] j = G j := by
  intro j hj
  obtain ⟨y, -, rfl⟩ := Finset.mem_map.mp hj
  have he : (oRow L t).view.emb y = ((oRow L t).view.slice (Rect.whole S9520)).emb y :=
    congrArg (oRow L t).view.emb (Rect.emb_whole_apply S9520 y).symm
  have h₁ : (oRow L t).view.writes (Elt F) f [⟨Rect.whole S9520, w⟩] ((oRow L t).view.emb y) = w y := by
    rw [he]
    exact (View.write_emb_of_mem _ _ (Finset.mem_univ _)).trans (cast_eq _ _)
  have h₂ := write_oRow L t f G w (hw ▸ rfl) _ hj
  rw [View.write_emb_of_mem _ _ (Finset.mem_univ _)] at h₂
  exact h₁.trans ((cast_eq _ _).symm.trans h₂)

set_option maxHeartbeats 4000000 in
theorem row_trip (v2 : BitVec 32) (f₀ : Vec F S4096x9520 .f32) (t : Fin k0_t1_loop.trips) (u : Unit) :
    iprop(tripRes d L q A O W ∗ oPts d L t f₀)
      ⊢ wp frame (wpE (defs₀ (F := F)) 𝒱₀ (tV d L) none) Set.univ
          (k0_t1_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 v2 k0_pay12
            (Scalar.select (Scalar.cmpi .eq 2#32 0#32) 1#32 2#32) k0_pay13 k0_pay14 k0_pay15 k0_pay16 t u)
          fun _ => iprop(tripRes d L q A O W ∗ oPts d L t A.out) := by
  unfold k0_t1_body
  simp only [k0_part1_eq_skeleton, k0_part2_eq_skeleton]
  unfold k0_part1_skel k0_part2_skel tripRes
  iintro ⟨⟨Hmw, Hx, Hii, Hip, Hos, Hop, Hti, Htp, ⟨%fx, Sx⟩, ⟨%fii, Sii⟩, ⟨%fip, Sip⟩, ⟨%fos, Sos⟩, ⟨%fop, Sop⟩, ⟨%fti, Sti⟩, ⟨%ftp, Stp⟩,
    Sit, Stt, C2, C3, C4, C5, C6, C7, C8, C9, %W', %hW', HO⟩, Ho⟩
  sl_exec (disch := first | exact View.amount_pos _ _ (show 0 < S9520.numel by decide) | exact View.amount_pos _ _ (show 0 < S512.numel by decide) | exact View.amount_pos _ _ (show 0 < S128.numel by decide) | exact View.amount_pos _ _ (show 0 < S256.numel by decide) | exact View.amount_pos _ _ (show 0 < S64.numel by decide))
  ihave Sx := (Entails.of_eq (land_sX d L fx (row_trip.sl.dma0 L A t) _ (read_xRow L t A.x))) $$ Sx
  ihave Sii := (Entails.of_eq (land_sII d L fii (row_trip.sl.dma0_1 L A t) _ (read_iiRow L t A.ii))) $$ Sii
  ihave Sip := (Entails.of_eq (land_sIP d L fip (row_trip.sl.dma0_2 L A t) _ (read_ipRow L t A.ip))) $$ Sip
  ihave Sos := (Entails.of_eq (land_sOS d L fos (row_trip.sl.dma0_3 L A t) _ (read_osRow L t A.os))) $$ Sos
  ihave Sop := (Entails.of_eq (land_sOP d L fop (row_trip.sl.dma0_4 L A t) _ (read_opRow L t A.op))) $$ Sop
  ihave Sti := (Entails.of_eq (land_sTI d L fti (row_trip.sl.dma0_5 L A t) _ (read_tiRow L t A.ti))) $$ Sti
  ihave Stp := (Entails.of_eq (land_sTP d L ftp (row_trip.sl.dma0_6 L A t) _ (read_tpRow L t A.tp))) $$ Stp
  rw [wp_bind]
  sl_for (inv2 d L (line A.x (rowNo L t)) (line A.ii (rowNo L t)) (line A.ip (rowNo L t)) A.itab) $$ [Sx Sii Sip Sit]
  case region => intro k u; exact trip2 d L _ _ _ _ t k u
  · unfold inv2
    rw [Nat.mul_zero, rowPut_zero]
    isplitl [Sx]; · iexact Sx
    isplitl [Sii]; · iexact Sii
    isplitl [Sip]; · iexact Sip
    iexact Sit
  iintro %_ HI
  unfold inv2
  icases HI with ⟨Sx, Sii, Sip, Sit⟩
  sl_for (inv3 d L (rowPut (innerDest (at1 (line A.ii (rowNo L t))) (at1 A.itab)) (at1 (α := Elt F .f32) (N := 512) (line A.ip (rowNo L t))) (line A.x (rowNo L t)) 512)
    (line A.os (rowNo L t)) (line A.op (rowNo L t))) $$ [Sx Sos Sop]
  case region => intro k u; exact trip3 d L _ _ _ t k u
  · unfold inv3
    rw [Nat.mul_zero, rowPut_zero]
    isplitl [Sx]; · iexact Sx
    isplitl [Sos]; · iexact Sos
    iexact Sop
  iintro %_ HI
  unfold inv3
  icases HI with ⟨Sx, Sos, Sop⟩
  sl_for (inv4 d L (rowPut (outerDest (at1 (line A.os (rowNo L t)))) (at1 (α := Elt F .f32) (N := 256) (line A.op (rowNo L t)))
    (rowPut (innerDest (at1 (line A.ii (rowNo L t))) (at1 A.itab)) (at1 (α := Elt F .f32) (N := 512) (line A.ip (rowNo L t))) (line A.x (rowNo L t)) 512) 256)
    (line A.ti (rowNo L t)) (line A.tp (rowNo L t)) A.ttab) $$ [Sx Sti Stp Stt]
  case region => intro k u; exact trip4 d L _ _ _ _ t k u
  · unfold inv4
    rw [Nat.mul_zero, rowPut_zero]
    isplitl [Sx]; · iexact Sx
    isplitl [Sti]; · iexact Sti
    isplitl [Stp]; · iexact Stp
    iexact Stt
  iintro %_ HI
  unfold inv4
  icases HI with ⟨Sx, Sti, Stp, Stt⟩
  ihave Sx := (Entails.of_eq (show ((tV d L).loc cc0_scratch0 ↦{fullShare} _ : sProp 𝕄) = ((Memref.whole cc0_scratch0 : Memref sig .scVector .vmem S9520 .f32)).view.loc (tV d L) ↦{fullShare} line A.out (rowNo L t) by
    rw [Arrays.line_out]; rfl)) $$ Sx
  sl_exec (disch := first | exact View.amount_pos _ _ (show 0 < S9520.numel by decide) | exact View.amount_pos _ _ (show 0 < S512.numel by decide) | exact View.amount_pos _ _ (show 0 < S128.numel by decide) | exact View.amount_pos _ _ (show 0 < S256.numel by decide) | exact View.amount_pos _ _ (show 0 < S64.numel by decide))
  rw [wp_ret]; imodintro
  isplitr [Ho]
  · isplitl [Hmw]; · iexact Hmw
    isplitl [Hx]; · iexact Hx
    isplitl [Hii]; · iexact Hii
    isplitl [Hip]; · iexact Hip
    isplitl [Hos]; · iexact Hos
    isplitl [Hop]; · iexact Hop
    isplitl [Hti]; · iexact Hti
    isplitl [Htp]; · iexact Htp
    isplitl [Sx]; · iexists _; iexact Sx
    isplitl [Sii]; · iexists _; iexact Sii
    isplitl [Sip]; · iexists _; iexact Sip
    isplitl [Sos]; · iexists _; iexact Sos
    isplitl [Sop]; · iexists _; iexact Sop
    isplitl [Sti]; · iexists _; iexact Sti
    isplitl [Stp]; · iexists _; iexact Stp
    isplitl [Sit]; · iexact Sit
    isplitl [Stt]; · iexact Stt
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · iapply (Entails.of_eq (pointsTo_congr (row_written L t f₀ A.out (row_trip.sl.dma0_7 d L A t) (by rw [A.line_out]; rfl)))); iexact Ho

end Cert.Sensors

end
-- ==== Proof.Tile.lean ====
/-
  One subcore's whole run: it fetches the two tables, then goes through its 128 rows.
-/
module

public import proofs.«01_k».proof.Proof.Row

@[expose] public section

noncomputable section

namespace Cert.Sensors

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.SparseCore.Cfg (ownBufs ownSems0 ownCells ownRefs mem_ownCells mem_ownRefs)

/-- A product over a set, with the members of a list taken out one by one. -/
theorem bigSep_take {M : Type} [URA M] {I : Type} [DecidableEq I] (Φ : I → sProp M) : ∀ (l : List I) (s : Finset I), l.Nodup → (∀ x ∈ l, x ∈ s) →
    bigSep s Φ = l.foldr (fun x acc => iprop(Φ x ∗ acc)) (bigSep (l.foldl Finset.erase s) Φ)
  | [], _, _, _ => rfl
  | x :: l, s, hn, hs => by
    rw [SparseCore.bigSep_erase' (hs x List.mem_cons_self), bigSep_take Φ l (s.erase x) (List.nodup_cons.mp hn).2 fun y hy =>
      Finset.mem_erase.mpr ⟨fun e => (List.nodup_cons.mp hn).1 (e ▸ hy), hs y (List.mem_cons_of_mem _ hy)⟩]
    rfl

variable (d : Dev nD) (L : grid0.Coords) (q : PosShare TreeShare) (A : Arrays F) (O : CellTallies nD τ sig (HIx 1)) (W : Waits sig (HIx 1))

/-! ## The loop over the rows -/

/-- Before trip `k`: what a trip needs, and the result's rows, the first `k` of them done. -/
def inv1 (f₀ : Vec F S4096x9520 .f32) (k : ℕ) (_ : Unit) : sProp 𝕄 :=
  iprop(tripRes d L q A O W ∗ bigSep Finset.univ fun t : Fin k0_t1_loop.trips => oPts d L t (if t.val < k then A.out else f₀))

theorem rows_step (f₀ : Vec F S4096x9520 .f32) (k : Fin k0_t1_loop.trips) :
    (bigSep (Finset.univ.erase k) fun t : Fin k0_t1_loop.trips => (oPts d L t (if t.val < k.val then A.out else f₀) : sProp 𝕄))
      = bigSep (Finset.univ.erase k) fun t : Fin k0_t1_loop.trips => oPts d L t (if t.val < k.val + 1 then A.out else f₀) :=
  bigSep_congr fun t ht => by
    have hne : t.val ≠ k.val := fun e => (Finset.mem_erase.mp ht).1 (Fin.ext e)
    by_cases h : t.val < k.val
    · rw [if_pos h, if_pos (by omega)]
    · rw [if_neg h, if_neg (by omega)]

theorem row_step (v2 : BitVec 32) (f₀ : Vec F S4096x9520 .f32) (k : Fin k0_t1_loop.trips) (u : Unit) :
    inv1 d L q A O W f₀ k.val u
      ⊢ wp frame (wpE (defs₀ (F := F)) 𝒱₀ (tV d L) none) Set.univ
          (k0_t1_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9 v2 k0_pay12
            (Scalar.select (Scalar.cmpi .eq 2#32 0#32) 1#32 2#32) k0_pay13 k0_pay14 k0_pay15 k0_pay16 k u)
          fun u' => inv1 d L q A O W f₀ (k.val + 1) u' := by
  unfold inv1
  rw [SparseCore.bigSep_erase' (Finset.mem_univ k), SparseCore.bigSep_erase' (Finset.mem_univ k), rows_step, if_neg (lt_irrefl _), if_pos (Nat.lt_succ_self _)]
  iintro ⟨HT, Hk, HR⟩
  iapply (wp_wand_r frame _ _)
  isplitl [HT Hk]
  · iapply (row_trip d L q A O W v2 f₀ k u)
    isplitl [HT] <;> iassumption
  iintro %_ ⟨HT, Hk⟩
  isplitl [HT]; · iexact HT
  isplitl [Hk] <;> iassumption

/-! ## What a subcore is given -/

/-- The subcore's semaphores. -/
abbrev cell (a : DmaSem sig) : GSem nD τ sig := (tV d L, SemLoc.dma a)

theorem ownSems0_V :
    (ownSems0 (tV d L) : sProp 𝕄)
      = iprop(semVal (cell d L cc0_scoped0.sem) 0 ∗ semVal (cell d L cc0_scoped1.sem) 0 ∗ semVal (cell d L cc0_scoped2.sem) 0 ∗ semVal (cell d L cc0_scoped3.sem) 0 ∗ semVal (cell d L cc0_scoped4.sem) 0 ∗ semVal (cell d L cc0_scoped5.sem) 0 ∗ semVal (cell d L cc0_scoped6.sem) 0 ∗ semVal (cell d L cc0_scoped7.sem) 0 ∗ semVal (cell d L cc0_scoped8.sem) 0 ∗ semVal (cell d L cc0_scoped9.sem) 0
          ∗ bigSep (([cc0_scoped0.sem, cc0_scoped1.sem, cc0_scoped2.sem, cc0_scoped3.sem, cc0_scoped4.sem, cc0_scoped5.sem, cc0_scoped6.sem, cc0_scoped7.sem, cc0_scoped8.sem, cc0_scoped9.sem].map (cell d L)).foldl Finset.erase (ownCells (tV d L))) fun g => semVal g 0) := by
  unfold SparseCore.Cfg.ownSems0
  refine (bigSep_take _ ([cc0_scoped0.sem, cc0_scoped1.sem, cc0_scoped2.sem, cc0_scoped3.sem, cc0_scoped4.sem, cc0_scoped5.sem, cc0_scoped6.sem, cc0_scoped7.sem, cc0_scoped8.sem, cc0_scoped9.sem].map (cell d L)) _ (List.Nodup.map (fun a b e => by injection e with _ e; injection e) (by decide)) ?_).trans rfl
  intro g hg
  obtain ⟨a, ha, rfl⟩ := List.mem_map.mp hg
  refine mem_ownCells.mpr ⟨rfl, ?_⟩
  exact (show ∀ a ∈ [cc0_scoped0.sem, cc0_scoped1.sem, cc0_scoped2.sem, cc0_scoped3.sem, cc0_scoped4.sem, cc0_scoped5.sem, cc0_scoped6.sem, cc0_scoped7.sem, cc0_scoped8.sem, cc0_scoped9.sem], (SemLoc.dma a : SemLoc sig).isScoped .scVector = true by decide) a ha

/-- The subcore's buffers. -/
abbrev dref (b : Ref sig .scVector) : DevRef τ sig := (Proc.scVector (cV L) (jV L)).devRef b

theorem ownBufs_V :
    (ownBufs (tV d L) : sProp 𝕄)
      = iprop((∃ f, (tV d L).loc cc0_scratch0 ↦{fullShare} f) ∗ (∃ f, (tV d L).loc cc0_scratch1 ↦{fullShare} f) ∗ (∃ f, (tV d L).loc cc0_scratch2 ↦{fullShare} f) ∗ (∃ f, (tV d L).loc cc0_scratch3 ↦{fullShare} f) ∗ (∃ f, (tV d L).loc cc0_scratch4 ↦{fullShare} f) ∗ (∃ f, (tV d L).loc cc0_scratch5 ↦{fullShare} f) ∗ (∃ f, (tV d L).loc cc0_scratch6 ↦{fullShare} f) ∗ (∃ f, (tV d L).loc cc0_scratch7 ↦{fullShare} f) ∗ (∃ f, (tV d L).loc cc0_scratch8 ↦{fullShare} f)
          ∗ bigSep (([cc0_scratch0, cc0_scratch1, cc0_scratch2, cc0_scratch3, cc0_scratch4, cc0_scratch5, cc0_scratch6, cc0_scratch7, cc0_scratch8].map (dref L)).foldl Finset.erase (ownRefs (τ := τ) (.scVector (cV L) (jV L)))) fun b => iprop(∃ f, ((d, b) : Loc nD τ sig) ↦{fullShare} f)) := by
  unfold SparseCore.Cfg.ownBufs
  refine (bigSep_take _ ([cc0_scratch0, cc0_scratch1, cc0_scratch2, cc0_scratch3, cc0_scratch4, cc0_scratch5, cc0_scratch6, cc0_scratch7, cc0_scratch8].map (dref L)) _ (List.Nodup.map (f := dref L) (fun _ _ e => Proc.devRef_injective (Proc.scVector (cV L) (jV L)) e) (by decide)) ?_).trans rfl
  intro g hg
  obtain ⟨b, hb, rfl⟩ := List.mem_map.mp hg
  refine SparseCore.Cfg.mem_ownRefs_of_owner ?_
  simp only [List.mem_cons, List.not_mem_nil, or_false] at hb
  rcases hb with rfl | rfl | rfl | rfl | rfl | rfl | rfl | rfl | rfl <;> rfl

/-- The nine arrays whole, at a share. -/
def inPts : sProp 𝕄 :=
  iprop(((SparseCore.T d).loc main_v0 ↦{q} A.x) ∗ ((SparseCore.T d).loc main_v1 ↦{q} A.ii) ∗ ((SparseCore.T d).loc main_v2 ↦{q} A.ip) ∗ ((SparseCore.T d).loc main_arg6 ↦{q} A.os)
    ∗ ((SparseCore.T d).loc main_v3 ↦{q} A.op) ∗ ((SparseCore.T d).loc main_arg9 ↦{q} A.ti) ∗ ((SparseCore.T d).loc main_v4 ↦{q} A.tp) ∗ ((SparseCore.T d).loc main_arg11 ↦{q} A.itab)
    ∗ (SparseCore.T d).loc main_arg12 ↦{q} A.ttab)

/-- The subcore's rows of the result, at `f`. -/
def outPts (f : Vec F S4096x9520 .f32) : sProp 𝕄 := bigSep Finset.univ fun t : Fin k0_t1_loop.trips => oPts d L t f

theorem land_sIT (f w w' : Vec F S4092 .i32) (h : w = w') : (((Memref.whole cc0_scratch7 : Memref sig .scVector .vmem S4092 .i32)).view.loc (tV d L) ↦{fullShare} View.write (Elt F) ((Memref.whole cc0_scratch7 : Memref sig .scVector .vmem S4092 .i32)).view f w Finset.univ : sProp 𝕄)
    = (tV d L).loc cc0_scratch7 ↦{fullShare} w' := by subst h; simp only [Memref.view_whole, View.write_whole_univ]
theorem land_sTT (f w w' : Vec F S334 .i32) (h : w = w') : (((Memref.whole cc0_scratch8 : Memref sig .scVector .vmem S334 .i32)).view.loc (tV d L) ↦{fullShare} View.write (Elt F) ((Memref.whole cc0_scratch8 : Memref sig .scVector .vmem S334 .i32)).view f w Finset.univ : sProp 𝕄)
    = (tV d L).loc cc0_scratch8 ↦{fullShare} w' := by subst h; simp only [Memref.view_whole, View.write_whole_univ]

theorem pts_sIT (f : Vec F S4092 .i32) : (((Memref.whole cc0_scratch7 : Memref sig .scVector .vmem S4092 .i32)).view.loc (tV d L) ↦{fullShare} f : sProp 𝕄) = (tV d L).loc cc0_scratch7 ↦{fullShare} f := rfl
theorem pts_sTT (f : Vec F S334 .i32) : (((Memref.whole cc0_scratch8 : Memref sig .scVector .vmem S334 .i32)).view.loc (tV d L) ↦{fullShare} f : sProp 𝕄) = (tV d L).loc cc0_scratch8 ↦{fullShare} f := rfl

theorem rows_first (f₀ : Vec F S4096x9520 .f32) :
    (outPts d L f₀ : sProp 𝕄) = bigSep Finset.univ fun t : Fin k0_t1_loop.trips => oPts d L t (if t.val < 0 then A.out else f₀) :=
  bigSep_congr fun t _ => by rw [if_neg (Nat.not_lt_zero _)]
theorem rows_last (f₀ : Vec F S4096x9520 .f32) :
    (bigSep Finset.univ fun t : Fin k0_t1_loop.trips => (oPts d L t (if t.val < k0_t1_loop.trips then A.out else f₀) : sProp 𝕄)) = outPts d L A.out :=
  bigSep_congr fun t _ => by rw [if_pos t.isLt]

set_option maxHeartbeats 4000000 in
/-- The subcore of coordinates `L`: from shares of the nine arrays and its rows of the result, to the rows done. -/
theorem tile_body (hF : (K (F := F)).Facts) (f₀ : Vec F S4096x9520 .f32) (hO : ∀ g, O g none = 0) :
    iprop(levAts (K (F := F)).L (K (F := F)).lev ∗ emp ∗ (inPts d q A ∗ outPts d L f₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9)
          fun _ => iprop((inPts d q A ∗ outPts d L A.out)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  simp only [k0_part3_eq_skeleton]; unfold k0_part3_skel
  rw [(K (F := F)).scopedBufs_V hF d (cV L) (jV L), SparseCore.Cfg.scopedSems0_V (Val := Elt F) d (cV L) (jV L), ownSems0_V, ownBufs_V]
  unfold inPts
  iintro ⟨#Hlv, -, ⟨⟨Hx, Hii, Hip, Hos, Hop, Hti, Htp, Hit, Htt⟩, Ho⟩, ⟨B0, B1, B2, B3, B4, B5, B6, ⟨%fit, B7⟩, ⟨%ftt, B8⟩, Hbufs⟩, ⟨C0, C1, C2, C3, C4, C5, C6, C7, C8, C9, Hsems⟩, HO⟩
  ihave Hmw := (show levAts (K (F := F)).L (K (F := F)).lev ⊢ Transfers.MayWaits (tV d L) (default : HIx 1) O from
    (K (F := F)).mayWaits_none (thr := tV d L) hO) $$ Hlv
  ihave Hit := (Entails.of_eq (show ((SparseCore.T d).loc main_arg11 ↦{q} A.itab : sProp 𝕄) = ((Memref.whole main_arg11_scv : Memref sig .scVector .hbm S4092 .i32)).view.loc (tV d L) ↦{q} A.itab from rfl)) $$ Hit
  ihave Htt := (Entails.of_eq (show ((SparseCore.T d).loc main_arg12 ↦{q} A.ttab : sProp 𝕄) = ((Memref.whole main_arg12_scv : Memref sig .scVector .hbm S334 .i32)).view.loc (tV d L) ↦{q} A.ttab from rfl)) $$ Htt
  ihave B7 := (Entails.of_eq (pts_sIT d L fit).symm) $$ B7
  ihave B8 := (Entails.of_eq (pts_sTT d L ftt).symm) $$ B8
  sl_exec (disch := first | exact View.amount_pos _ _ (show 0 < S4092.numel by decide) | exact View.amount_pos _ _ (show 0 < S334.numel by decide))
  ihave B7 := (Entails.of_eq (land_sIT d L fit (tile_body.sl.dma0 A) A.itab rfl)) $$ B7
  ihave B8 := (Entails.of_eq (land_sTT d L ftt (tile_body.sl.dma0_1 A) A.ttab rfl)) $$ B8
  sl_for (inv1 d L q A O W f₀) $$ [Hx Hii Hip Hos Hop Hti Htp Ho B0 B1 B2 B3 B4 B5 B6 C2 C3 C4 C5 C6 C7 C8 C9 B7 B8 HO]
  case region => intro k u; exact row_step d L q A O W _ f₀ k u
  · unfold inv1 tripRes
    rw [← rows_first d L A f₀]
    isplitr [Ho]
    · isplitr; · iexact Hmw
      isplitl [Hx]; · iexact Hx
      isplitl [Hii]; · iexact Hii
      isplitl [Hip]; · iexact Hip
      isplitl [Hos]; · iexact Hos
      isplitl [Hop]; · iexact Hop
      isplitl [Hti]; · iexact Hti
      isplitl [Htp]; · iexact Htp
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact .inl hp
    · iexact Ho
  iintro %_ HI
  unfold inv1 tripRes
  rw [rows_last d L A f₀]
  icases HI with ⟨⟨-, Hx, Hii, Hip, Hos, Hop, Hti, Htp, B0, B1, B2, B3, B4, B5, B6, B7, B8, C2, C3, C4, C5, C6, C7, C8, C9, HO⟩, Ho⟩
  sl_step
  isplitl [Hx Hii Hip Hos Hop Hti Htp Hit Htt Ho]
  · isplitr [Ho]
    · isplitl [Hx]; · iexact Hx
      isplitl [Hii]; · iexact Hii
      isplitl [Hip]; · iexact Hip
      isplitl [Hos]; · iexact Hos
      isplitl [Hop]; · iexact Hop
      isplitl [Hti]; · iexact Hti
      isplitl [Htp]; · iexact Htp
      isplitl [Hit]; · iexact Hit
      iexact Htt
    iexact Ho
  isplitl [B0 B1 B2 B3 B4 B5 B6 B7 B8 Hbufs]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexists _; iexact B7
    isplitl [B8]; · iexists _; iexact B8
    iexact Hbufs
  isplitl [C0 C1 C2 C3 C4 C5 C6 C7 C8 C9 Hsems]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    iexact Hsems
  iexact HO

end Cert.Sensors

end
-- ==== Proof.Launch.lean ====
/-
  The launch: the arrays dealt to the 32 subcores and joined again, the host's reshapes around the call, the whole run.
-/
module

public import proofs.«01_k».proof.Proof.Tile

@[expose] public section

noncomputable section

namespace Cert.Sensors

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.SparseCore.Cfg (Pay)
open Idealize.ShloMosaic.Rounds
open Idealize.ShloMosaic.StableHlo (held wp_hlo_within)

/-! ## Shares -/

/-- A share cut into `n + 1`: a half, then the other half cut into `n`. -/
def cut : (n : ℕ) → PosShare TreeShare → Fin (n + 1) → PosShare TreeShare
  | 0, q => fun _ => q
  | n + 1, q => Fin.cases q.left (cut n q.right)

theorem pts_cut {ℓ : Loc nD τ sig} (f : Buf (Elt F) ℓ) : ∀ (n : ℕ) (q : PosShare TreeShare),
    (ℓ ↦{q} f : sProp 𝕄) = bigSep Finset.univ fun i : Fin (n + 1) => ℓ ↦{cut n q i} f
  | 0, q => (bigSep_univ_of_subsingleton (0 : Fin 1) (Φ := fun i : Fin (0 + 1) => (ℓ ↦{cut 0 q i} f : sProp 𝕄))).symm
  | n + 1, q => by
    have h : (ℓ ↦{q} f : sProp 𝕄) = iprop((ℓ ↦{q.left} f) ∗ ℓ ↦{q.right} f) := BI.Entails.antisymm (pointsTo_share (ℓ := ℓ) (I := Finset.univ) (f := f) (PosShare.mem_left_op_right q)).1 (pointsTo_share (ℓ := ℓ) (I := Finset.univ) (f := f) (PosShare.mem_left_op_right q)).2
    have h' : (bigSep Finset.univ fun i : Fin (n + 1 + 1) => (ℓ ↦{cut (n + 1) q i} f : sProp 𝕄))
        = iprop((ℓ ↦{q.left} f) ∗ bigSep Finset.univ fun i : Fin (n + 1) => ℓ ↦{cut n q.right i} f) := by
      rw [Fin.univ_succ (n + 1), Finset.cons_eq_insert, SparseCore.bigSep_insert' (by simp), bigSep_map]
      rfl
    rw [h, h', pts_cut f n q.right]

variable (d : Dev nD) (A : Arrays F)

theorem inPts_cut (n : ℕ) (q : PosShare TreeShare) :
    (inPts d q A : sProp 𝕄) = bigSep Finset.univ fun i : Fin (n + 1) => inPts d (cut n q i) A := by
  unfold inPts
  rw [bigSep_sep', bigSep_sep', bigSep_sep', bigSep_sep', bigSep_sep', bigSep_sep', bigSep_sep', bigSep_sep',
    ← pts_cut (ℓ := (SparseCore.T d).loc main_v0) A.x n q,
    ← pts_cut (ℓ := (SparseCore.T d).loc main_v1) A.ii n q,
    ← pts_cut (ℓ := (SparseCore.T d).loc main_v2) A.ip n q,
    ← pts_cut (ℓ := (SparseCore.T d).loc main_arg6) A.os n q,
    ← pts_cut (ℓ := (SparseCore.T d).loc main_v3) A.op n q,
    ← pts_cut (ℓ := (SparseCore.T d).loc main_arg9) A.ti n q,
    ← pts_cut (ℓ := (SparseCore.T d).loc main_v4) A.tp n q,
    ← pts_cut (ℓ := (SparseCore.T d).loc main_arg11) A.itab n q,
    ← pts_cut (ℓ := (SparseCore.T d).loc main_arg12) A.ttab n q]

/-! ## The rows of the result -/

/-- The coordinates of subcore `i` of core `c`. -/
def lane (c : Fin 2) (i : Fin 16) : grid0.Coords :=
  fun | 0 => c | 1 => i | ⟨_ + 2, h⟩ => absurd h (Nat.not_lt.2 (Nat.le_add_left _ _))

theorem trips_eq : k0_t1_loop.trips = 128 := by decide

theorem rowNo_lane (c : Fin 2) (i : Fin 16) (t : Fin k0_t1_loop.trips) : (rowNo (lane c i) t).val = 256 * i.val + 128 * c.val + t.val := rfl

/-- A row's elements. -/
abbrev rowSet (p : Fin 2 × Fin 16 × Fin k0_t1_loop.trips) : Finset S4096x9520.Idx := (oRow (lane p.1 p.2.1) p.2.2).view.set

theorem rowSet_disjoint : ∀ p ∈ (Finset.univ : Finset (Fin 2 × Fin 16 × Fin k0_t1_loop.trips)), ∀ p' ∈ (Finset.univ : Finset (Fin 2 × Fin 16 × Fin k0_t1_loop.trips)),
    p ≠ p' → Disjoint (rowSet p) (rowSet p') := by
  rintro ⟨c, i, t⟩ - ⟨c', i', t'⟩ - hne
  rw [Finset.disjoint_left]
  intro j h h'
  refine hne ?_
  have e := congrArg Fin.val (((mem_oRow (lane c i) t j).mp h).symm.trans ((mem_oRow (lane c' i') t' j).mp h'))
  rw [rowNo_lane, rowNo_lane] at e
  have ht : t.val < 128 := trips_eq ▸ t.isLt
  have ht' : t'.val < 128 := trips_eq ▸ t'.isLt
  have hc := c.isLt
  have hc' := c'.isLt
  refine Prod.ext (Fin.ext ?_) (Prod.ext (Fin.ext ?_) (Fin.ext ?_)) <;> dsimp only <;> omega

theorem rowSet_cover : (Finset.univ : Finset (Fin 2 × Fin 16 × Fin k0_t1_loop.trips)).biUnion rowSet = Finset.univ := by
  refine Finset.ext fun j => ?_
  refine iff_of_true ?_ (Finset.mem_univ _)
  rw [Finset.mem_biUnion]
  have hj : (j 0).val < 4096 := (j 0).isLt
  obtain ⟨r, hr⟩ : ∃ r : ℕ, r = (j 0).val := ⟨_, rfl⟩
  rw [← hr] at hj
  have hc : r / 128 % 2 < 2 := by omega
  have hi : r / 256 < 16 := by omega
  have ht : r % 128 < k0_t1_loop.trips := by rw [trips_eq]; omega
  refine ⟨(⟨r / 128 % 2, hc⟩, ⟨r / 256, hi⟩, ⟨r % 128, ht⟩), Finset.mem_univ _, ?_⟩
  refine (mem_oRow _ _ j).mpr (Fin.ext ?_)
  rw [rowNo_lane, ← hr]; show r = 256 * (r / 256) + 128 * (r / 128 % 2) + r % 128; omega

/-- The result whole is its rows, by core, subcore and trip. -/
theorem out_rows (f : Vec F S4096x9520 .f32) :
    ((SparseCore.T d).loc main_v5 ↦{fullShare} f : sProp 𝕄)
      = bigSep Finset.univ fun c : Fin 2 => bigSep Finset.univ fun i : Fin 16 => outPts d (lane c i) f := by
  have h := pointsTo_biUnion (ℓ := ((SparseCore.T d).loc main_v5 : Loc nD τ sig)) (q := fullShare) (f := f) (Ix := HIx 1) (Name := ℕ) (U := UU) (Lvl := ℕ) Finset.univ rowSet rowSet_disjoint
  rw [rowSet_cover] at h
  refine h.trans ?_
  rw [bigSep_univ_prod]
  refine bigSep_congr fun c _ => ?_
  rw [bigSep_univ_prod]
  rfl

/-! ## The host's reshapes -/

variable (m : (ℓ : Loc nD τ sig) → Buf (Elt F) ℓ) (ρ : Dev nD → PrngReg)

abbrev op1 : HloOp τ sig (Elt F) := StableHlo.reshape main_arg0 main_v0 (rfl : (.f32 : EltTy) = .f32) shapeCasts_S4096x4760x2_S4096x9520
abbrev op2 : HloOp τ sig (Elt F) := StableHlo.reshape main_arg3 main_v1 (rfl : (.i32 : EltTy) = .i32) shapeCasts_S4096x256x2_S4096x512
abbrev op3 : HloOp τ sig (Elt F) := StableHlo.reshape main_arg2 main_v2 (rfl : (.f32 : EltTy) = .f32) shapeCasts_S4096x256x2_S4096x512
abbrev op4 : HloOp τ sig (Elt F) := StableHlo.reshape main_arg5 main_v3 (rfl : (.f32 : EltTy) = .f32) shapeCasts_S4096x128x2_S4096x256
abbrev op5 : HloOp τ sig (Elt F) := StableHlo.reshape main_arg8 main_v4 (rfl : (.f32 : EltTy) = .f32) shapeCasts_S4096x64x2_S4096x128
abbrev op6 : HloOp τ sig (Elt F) := StableHlo.reshape main_v5 main_v6 (rfl : (.f32 : EltTy) = .f32) shapeCasts_S4096x9520_S4096x4760x2

/-- The host's arrays. -/
abbrev allRefs : Finset (DevRef τ sig) := {(Proc.devRef .tc (main_arg0 : Ref sig .tc) : DevRef τ sig), (Proc.devRef .tc (main_arg1 : Ref sig .tc) : DevRef τ sig), (Proc.devRef .tc (main_arg2 : Ref sig .tc) : DevRef τ sig), (Proc.devRef .tc (main_arg3 : Ref sig .tc) : DevRef τ sig), (Proc.devRef .tc (main_arg4 : Ref sig .tc) : DevRef τ sig), (Proc.devRef .tc (main_arg5 : Ref sig .tc) : DevRef τ sig), (Proc.devRef .tc (main_arg6 : Ref sig .tc) : DevRef τ sig), (Proc.devRef .tc (main_arg7 : Ref sig .tc) : DevRef τ sig), (Proc.devRef .tc (main_arg8 : Ref sig .tc) : DevRef τ sig), (Proc.devRef .tc (main_arg9 : Ref sig .tc) : DevRef τ sig), (Proc.devRef .tc (main_arg10 : Ref sig .tc) : DevRef τ sig), (Proc.devRef .tc (main_arg11 : Ref sig .tc) : DevRef τ sig), (Proc.devRef .tc (main_arg12 : Ref sig .tc) : DevRef τ sig), (Proc.devRef .tc (main_v0 : Ref sig .tc) : DevRef τ sig), (Proc.devRef .tc (main_v1 : Ref sig .tc) : DevRef τ sig), (Proc.devRef .tc (main_v2 : Ref sig .tc) : DevRef τ sig), (Proc.devRef .tc (main_v3 : Ref sig .tc) : DevRef τ sig), (Proc.devRef .tc (main_v4 : Ref sig .tc) : DevRef τ sig), (Proc.devRef .tc (main_v5 : Ref sig .tc) : DevRef τ sig), (Proc.devRef .tc (main_v6 : Ref sig .tc) : DevRef τ sig)}

/-- The contents at the launch, and after the five reshapes before the call. -/
def Vm : Valuation τ sig (Elt F) := fun b => m (d, b)
def Vc : Valuation τ sig (Elt F) := op5.result (op4.result (op3.result (op2.result (op1.result (Vm d m)))))

/-- The arrays the call is given. -/
def arrs : Arrays F where
  x := Vc d m (Proc.devRef .tc (main_v0 : Ref sig .tc) : DevRef τ sig)
  ii := Vc d m (Proc.devRef .tc (main_v1 : Ref sig .tc) : DevRef τ sig)
  ip := Vc d m (Proc.devRef .tc (main_v2 : Ref sig .tc) : DevRef τ sig)
  os := Vc d m (Proc.devRef .tc (main_arg6 : Ref sig .tc) : DevRef τ sig)
  op := Vc d m (Proc.devRef .tc (main_v3 : Ref sig .tc) : DevRef τ sig)
  ti := Vc d m (Proc.devRef .tc (main_arg9 : Ref sig .tc) : DevRef τ sig)
  tp := Vc d m (Proc.devRef .tc (main_v4 : Ref sig .tc) : DevRef τ sig)
  itab := Vc d m (Proc.devRef .tc (main_arg11 : Ref sig .tc) : DevRef τ sig)
  ttab := Vc d m (Proc.devRef .tc (main_arg12 : Ref sig .tc) : DevRef τ sig)

/-- The result before the call. -/
def res₀ : Vec F S4096x9520 .f32 := Vc d m (Proc.devRef .tc (main_v5 : Ref sig .tc) : DevRef τ sig)

/-- The contents after the call, and after the last reshape. -/
def Vr : Valuation τ sig (Elt F) := Function.update (Vc d m) (Proc.devRef .tc (main_v5 : Ref sig .tc) : DevRef τ sig) (arrs d m).out
def Ve : Valuation τ sig (Elt F) := op6.result (Vr d m)

/-! ## What the handshakes carry -/

/-- What a core is given, and gives back with the result at `f`. -/
def corePay (c : Fin 2) (f : Vec F S4096x9520 .f32) : sProp 𝕄 :=
  iprop(inPts d (cut 1 fullShare c) (arrs d m) ∗ bigSep Finset.univ fun i : Fin 16 => outPts d (lane c i) f)
/-- What a subcore is given, and gives back with the result at `f`. -/
def lanePay (c : Fin 2) (i : Fin 16) (f : Vec F S4096x9520 .f32) : sProp 𝕄 :=
  iprop(inPts d (cut 15 (cut 1 fullShare c) i) (arrs d m) ∗ outPts d (lane c i) f)

instance inPts_storable (q : PosShare TreeShare) : BI.Storable (upEmb : UEmb _ 𝕄) (inPts d q A) := by unfold inPts; infer_instance
instance outPts_storable (L : grid0.Coords) (f : Vec F S4096x9520 .f32) : BI.Storable (upEmb : UEmb _ 𝕄) (outPts d L f) := by unfold outPts; infer_instance
instance corePay_storable (c : Fin 2) (f : Vec F S4096x9520 .f32) : BI.Storable (upEmb : UEmb _ 𝕄) (corePay d m c f) := by unfold corePay; infer_instance
instance lanePay_storable (c : Fin 2) (i : Fin 16) (f : Vec F S4096x9520 .f32) : BI.Storable (upEmb : UEmb _ 𝕄) (lanePay d m c i f) := by unfold lanePay; infer_instance

def P : (K (F := F)).Pay (nD := nD) (Val := Elt F) (Name := ℕ) (U := UU) where
  st := fun q d c => match q with | 0 => corePay d m (Fin.cast nCore_zero c) (res₀ d m)
  dn := fun q d c => match q with | 0 => corePay d m (Fin.cast nCore_zero c) (arrs d m).out
  go := fun q d c i => match q with | 0 => lanePay d m (Fin.cast nCore_zero c) (Fin.cast nSub_zero i) (res₀ d m)
  td := fun q d c i => match q with | 0 => lanePay d m (Fin.cast nCore_zero c) (Fin.cast nSub_zero i) (arrs d m).out
  x := fun _ _ => iprop(emp)

instance P_storable : (P (F := F) m).IsStorable where
  st q d c := match q with | 0 => corePay_storable d m (Fin.cast nCore_zero c) (res₀ d m)
  dn q d c := match q with | 0 => corePay_storable d m (Fin.cast nCore_zero c) (arrs d m).out
  go q d c i := match q with | 0 => lanePay_storable d m (Fin.cast nCore_zero c) (Fin.cast nSub_zero i) (res₀ d m)
  td q d c i := match q with | 0 => lanePay_storable d m (Fin.cast nCore_zero c) (Fin.cast nSub_zero i) (arrs d m).out

theorem core_lanes (c : Fin 2) (f : Vec F S4096x9520 .f32) :
    (corePay d m c f : sProp 𝕄) = bigSep Finset.univ fun i : Fin 16 => lanePay d m c i f := by
  unfold corePay lanePay
  rw [bigSep_sep', ← inPts_cut d (arrs d m) 15]

/-! ## The subcores' obligation -/

theorem defs₀_vector (c : Fin τ.nSC) (s : Fin τ.nSub) :
    defs₀ (F := F) (.scVector c s) 0 ()
      = SparseCore.onTile hcore0 hsub0 (fun c s => cc0__sc_body (lane c s) (Memref.whole main_v0_scv) (Memref.isWhole_whole _) (Memref.whole main_v1_scv) (Memref.isWhole_whole _) (Memref.whole main_v2_scv) (Memref.isWhole_whole _) (Memref.whole main_arg6_scv) (Memref.isWhole_whole _)
    (Memref.whole main_v3_scv) (Memref.isWhole_whole _) (Memref.whole main_arg9_scv) (Memref.isWhole_whole _) (Memref.whole main_v4_scv) (Memref.isWhole_whole _) (Memref.whole main_arg11_scv) (Memref.isWhole_whole _)
    (Memref.whole main_arg12_scv) (Memref.isWhole_whole _) (Memref.whole main_v5_scv) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scoped0 cc0_scoped1 cc0_scoped2 cc0_scoped3 cc0_scoped4 cc0_scoped5 cc0_scoped6 cc0_scoped7 cc0_scoped8 cc0_scoped9) ⟨⟩ c s := rfl

theorem obl_post {thr : Thread nD τ} {X B C : sProp 𝕄} {O : CellTallies nD τ sig (HIx 1)} {W : Waits sig (HIx 1)} {q : Fin 1} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HX, HB, HC, %W', %hW', HO⟩
  isplitl [HX]; · iexact HX
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (lane ⟨_, hci.1⟩ ⟨_, hci.2⟩) _ (arrs d m) O W hF (res₀ d m) hO).trans (wp_mono frame _ _ fun _ => obl_post)

theorem bigSep_lanes (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePay d m (Fin.cast nCore_zero c) (res₀ d m) ⊢ |={Set.univ}=> iprop(
      (bigSep Finset.univ fun i : Fin ((K (F := F)).nSub 0) => lanePay d m (Fin.cast nCore_zero c) (Fin.cast nSub_zero i) (res₀ d m))
      ∗ ((bigSep Finset.univ fun i : Fin ((K (F := F)).nSub 0) => lanePay d m (Fin.cast nCore_zero c) (Fin.cast nSub_zero i) (arrs d m).out)
          -∗ corePay d m (Fin.cast nCore_zero c) (arrs d m).out))
  rw [bigSep_lanes (F := F) (fun i => lanePay d m (Fin.cast nCore_zero c) i (res₀ d m)),
    bigSep_lanes (F := F) (fun i => lanePay d m (Fin.cast nCore_zero c) i (arrs d m).out), core_lanes, core_lanes]
  iintro H; imodintro
  isplitl [H]; · iexact H
  iintro H; iexact H

/-! ## The launch element -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The host's program -/

theorem unscoped_held : (unscopedBufs d (fun b => m ((SparseCore.T d).loc b)) : sProp 𝕄) = held (SparseCore.T d) allRefs (Vm d m) := by
  unfold unscopedBufs held
  rw [show (Finset.univ.filter fun b : Ref sig .tc => ¬ b.isScoped) = {main_arg0, main_arg1, main_arg2, main_arg3, main_arg4, main_arg5, main_arg6, main_arg7, main_arg8, main_arg9, main_arg10, main_arg11, main_arg12, main_v0, main_v1, main_v2, main_v3, main_v4, main_v5, main_v6} by decide,
    show (allRefs : Finset (DevRef τ sig)) = ({main_arg0, main_arg1, main_arg2, main_arg3, main_arg4, main_arg5, main_arg6, main_arg7, main_arg8, main_arg9, main_arg10, main_arg11, main_arg12, main_v0, main_v1, main_v2, main_v3, main_v4, main_v5, main_v6} : Finset (Ref sig .tc)).map ⟨Proc.devRef .tc, Proc.devRef_injective _⟩ by decide, bigSep_map]
  rfl

/-- The arrays the call does not touch. -/
abbrev callRefs : List (DevRef τ sig) := [(Proc.devRef .tc (main_v0 : Ref sig .tc) : DevRef τ sig), (Proc.devRef .tc (main_v1 : Ref sig .tc) : DevRef τ sig), (Proc.devRef .tc (main_v2 : Ref sig .tc) : DevRef τ sig), (Proc.devRef .tc (main_arg6 : Ref sig .tc) : DevRef τ sig), (Proc.devRef .tc (main_v3 : Ref sig .tc) : DevRef τ sig), (Proc.devRef .tc (main_arg9 : Ref sig .tc) : DevRef τ sig), (Proc.devRef .tc (main_v4 : Ref sig .tc) : DevRef τ sig), (Proc.devRef .tc (main_arg11 : Ref sig .tc) : DevRef τ sig), (Proc.devRef .tc (main_arg12 : Ref sig .tc) : DevRef τ sig), (Proc.devRef .tc (main_v5 : Ref sig .tc) : DevRef τ sig)]

theorem held_call (V : Valuation τ sig (Elt F)) :
    (held (SparseCore.T d) allRefs V : sProp 𝕄)
      = iprop(((SparseCore.T d).loc main_v0 ↦{fullShare} V (Proc.devRef .tc (main_v0 : Ref sig .tc) : DevRef τ sig)) ∗ ((SparseCore.T d).loc main_v1 ↦{fullShare} V (Proc.devRef .tc (main_v1 : Ref sig .tc) : DevRef τ sig)) ∗ ((SparseCore.T d).loc main_v2 ↦{fullShare} V (Proc.devRef .tc (main_v2 : Ref sig .tc) : DevRef τ sig)) ∗ ((SparseCore.T d).loc main_arg6 ↦{fullShare} V (Proc.devRef .tc (main_arg6 : Ref sig .tc) : DevRef τ sig)) ∗ ((SparseCore.T d).loc main_v3 ↦{fullShare} V (Proc.devRef .tc (main_v3 : Ref sig .tc) : DevRef τ sig)) ∗ ((SparseCore.T d).loc main_arg9 ↦{fullShare} V (Proc.devRef .tc (main_arg9 : Ref sig .tc) : DevRef τ sig)) ∗ ((SparseCore.T d).loc main_v4 ↦{fullShare} V (Proc.devRef .tc (main_v4 : Ref sig .tc) : DevRef τ sig)) ∗ ((SparseCore.T d).loc main_arg11 ↦{fullShare} V (Proc.devRef .tc (main_arg11 : Ref sig .tc) : DevRef τ sig)) ∗ ((SparseCore.T d).loc main_arg12 ↦{fullShare} V (Proc.devRef .tc (main_arg12 : Ref sig .tc) : DevRef τ sig)) ∗ ((SparseCore.T d).loc main_v5 ↦{fullShare} V (Proc.devRef .tc (main_v5 : Ref sig .tc) : DevRef τ sig))
          ∗ held (SparseCore.T d) (callRefs.foldl Finset.erase allRefs) V) := by
  unfold held
  exact (bigSep_take (fun b : DevRef τ sig => (((SparseCore.T d).1, b) ↦{fullShare} V b : sProp 𝕄)) callRefs allRefs (by decide) (by decide)).trans rfl

theorem regroup (a b c e f g h i j o R : sProp 𝕄) :
    iprop(a ∗ b ∗ c ∗ e ∗ f ∗ g ∗ h ∗ i ∗ j ∗ o ∗ R) = iprop(((a ∗ b ∗ c ∗ e ∗ f ∗ g ∗ h ∗ i ∗ j) ∗ o) ∗ R) := by
  refine BI.Entails.antisymm (show iprop(a ∗ b ∗ c ∗ e ∗ f ∗ g ∗ h ∗ i ∗ j ∗ o ∗ R) ⊢ iprop(((a ∗ b ∗ c ∗ e ∗ f ∗ g ∗ h ∗ i ∗ j) ∗ o) ∗ R) from ?_)
    (show iprop(((a ∗ b ∗ c ∗ e ∗ f ∗ g ∗ h ∗ i ∗ j) ∗ o) ∗ R) ⊢ iprop(a ∗ b ∗ c ∗ e ∗ f ∗ g ∗ h ∗ i ∗ j ∗ o ∗ R) from ?_)
  · iintro ⟨H0, H1, H2, H3, H4, H5, H6, H7, H8, Ho, HR⟩
    isplitr [HR]
    · isplitr [Ho]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · iexact Ho
    · iexact HR
  · iintro ⟨⟨⟨H0, H1, H2, H3, H4, H5, H6, H7, H8⟩, Ho⟩, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Ho]; · iexact Ho
    iexact HR

theorem held_before : (held (SparseCore.T d) allRefs (Vc d m) : sProp 𝕄)
    = iprop((bigSep Finset.univ fun c : Fin 2 => corePay d m c (res₀ d m)) ∗ held (SparseCore.T d) (callRefs.foldl Finset.erase allRefs) (Vc d m)) := by
  unfold corePay
  rw [bigSep_sep', ← inPts_cut d (arrs d m) 1, ← out_rows, held_call]
  unfold inPts
  exact regroup _ _ _ _ _ _ _ _ _ _ _

theorem Vr_out : Vr d m (Proc.devRef .tc (main_v5 : Ref sig .tc) : DevRef τ sig) = (arrs d m).out := Function.update_self _ _ _
theorem Vr_ne {b : DevRef τ sig} (h : b ≠ (Proc.devRef .tc (main_v5 : Ref sig .tc) : DevRef τ sig)) : Vr d m b = Vc d m b := Function.update_of_ne h _ _

theorem held_after : (held (SparseCore.T d) allRefs (Vr d m) : sProp 𝕄)
    = iprop((bigSep Finset.univ fun c : Fin 2 => corePay d m c (arrs d m).out) ∗ held (SparseCore.T d) (callRefs.foldl Finset.erase allRefs) (Vc d m)) := by
  have h : (held (SparseCore.T d) (callRefs.foldl Finset.erase allRefs) (Vr d m) : sProp 𝕄) = held (SparseCore.T d) (callRefs.foldl Finset.erase allRefs) (Vc d m) :=
    StableHlo.held_congr _ fun b hb => Vr_ne d m fun e =>
      absurd (e ▸ hb) (show (Proc.devRef .tc (main_v5 : Ref sig .tc) : DevRef τ sig) ∉ callRefs.foldl Finset.erase allRefs by decide)
  unfold corePay
  rw [bigSep_sep', ← inPts_cut d (arrs d m) 1, ← out_rows, held_call, h, Vr_out,
    Vr_ne d m (b := (Proc.devRef .tc (main_v0 : Ref sig .tc) : DevRef τ sig)) (by decide),
    Vr_ne d m (b := (Proc.devRef .tc (main_v1 : Ref sig .tc) : DevRef τ sig)) (by decide),
    Vr_ne d m (b := (Proc.devRef .tc (main_v2 : Ref sig .tc) : DevRef τ sig)) (by decide),
    Vr_ne d m (b := (Proc.devRef .tc (main_arg6 : Ref sig .tc) : DevRef τ sig)) (by decide),
    Vr_ne d m (b := (Proc.devRef .tc (main_v3 : Ref sig .tc) : DevRef τ sig)) (by decide),
    Vr_ne d m (b := (Proc.devRef .tc (main_arg9 : Ref sig .tc) : DevRef τ sig)) (by decide),
    Vr_ne d m (b := (Proc.devRef .tc (main_v4 : Ref sig .tc) : DevRef τ sig)) (by decide),
    Vr_ne d m (b := (Proc.devRef .tc (main_arg11 : Ref sig .tc) : DevRef τ sig)) (by decide),
    Vr_ne d m (b := (Proc.devRef .tc (main_arg12 : Ref sig .tc) : DevRef τ sig)) (by decide)]
  unfold inPts
  exact regroup _ _ _ _ _ _ _ _ _ _ _

theorem st_eq : (bigSep Finset.univ fun c : Fin ((K (F := F)).nCore 0) => (P m).st 0 d c) = bigSep Finset.univ fun c : Fin 2 => corePay d m c (res₀ d m) :=
  bigSep_cores (F := F) (fun c => corePay d m c (res₀ d m))
theorem dn_eq : (bigSep Finset.univ fun c : Fin ((K (F := F)).nCore 0) => (P m).dn 0 d c) = bigSep Finset.univ fun c : Fin 2 => corePay d m c (arrs d m).out :=
  bigSep_cores (F := F) (fun c => corePay d m c (arrs d m).out)

abbrev FIN (d : Dev nD) : sProp 𝕄 := held (SparseCore.T d) allRefs (Ve d m)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := allRefs) (show ({(Proc.devRef .tc (main_arg0 : Ref sig .tc) : DevRef τ sig), (Proc.devRef .tc (main_v0 : Ref sig .tc) : DevRef τ sig)} : Finset (DevRef τ sig)) ⊆ allRefs by decide)) $$ [Hb Hheld]
  · isplitl [Hb] <;> iassumption
  iintro ⟨Hb, Hheld⟩
  rw [wp_ret]; imodintro
  iapply (wp_hlo_within 𝒱 (SparseCore.T d) none Set.univ (op := op2) (S := allRefs) (show ({(Proc.devRef .tc (main_arg3 : Ref sig .tc) : DevRef τ sig), (Proc.devRef .tc (main_v1 : Ref sig .tc) : DevRef τ sig)} : Finset (DevRef τ sig)) ⊆ allRefs by decide)) $$ [Hb Hheld]
  · isplitl [Hb] <;> iassumption
  iintro ⟨Hb, Hheld⟩
  rw [wp_ret]; imodintro
  iapply (wp_hlo_within 𝒱 (SparseCore.T d) none Set.univ (op := op3) (S := allRefs) (show ({(Proc.devRef .tc (main_arg2 : Ref sig .tc) : DevRef τ sig), (Proc.devRef .tc (main_v2 : Ref sig .tc) : DevRef τ sig)} : Finset (DevRef τ sig)) ⊆ allRefs by decide)) $$ [Hb Hheld]
  · isplitl [Hb] <;> iassumption
  iintro ⟨Hb, Hheld⟩
  rw [wp_ret]; imodintro
  iapply (wp_hlo_within 𝒱 (SparseCore.T d) none Set.univ (op := op4) (S := allRefs) (show ({(Proc.devRef .tc (main_arg5 : Ref sig .tc) : DevRef τ sig), (Proc.devRef .tc (main_v3 : Ref sig .tc) : DevRef τ sig)} : Finset (DevRef τ sig)) ⊆ allRefs by decide)) $$ [Hb Hheld]
  · isplitl [Hb] <;> iassumption
  iintro ⟨Hb, Hheld⟩
  rw [wp_ret]; imodintro
  iapply (wp_hlo_within 𝒱 (SparseCore.T d) none Set.univ (op := op5) (S := allRefs) (show ({(Proc.devRef .tc (main_arg8 : Ref sig .tc) : DevRef τ sig), (Proc.devRef .tc (main_v4 : Ref sig .tc) : DevRef τ sig)} : Finset (DevRef τ sig)) ⊆ allRefs by decide)) $$ [Hb Hheld]
  · isplitl [Hb] <;> iassumption
  iintro ⟨Hb, Hheld⟩
  rw [wp_ret]; imodintro
  ihave Hh := (Entails.of_eq ((show (held (SparseCore.T d) allRefs (op5.result (op4.result (op3.result (op2.result (op1.result (Vm d m)))))) : sProp 𝕄) = held (SparseCore.T d) allRefs (Vc d m) from rfl).trans (held_before d m))) $$ Hheld
  icases Hh with ⟨Hcall, Hrest⟩
  iapply ((K (F := F)).wp_run (D (F := F)) 𝒱 (EH := EH) (P := P m) κ d 0) $$ [Hst Hcall Hrest Hb Hts]
  isplitr; · iexact Hctx
  isplitl [Hst]; · iexact Hst
  isplitl [Hcall]
  · rw [st_eq]; iexact Hcall
  iintro ⟨Hst, Hdn⟩
  ihave Hcall := (Entails.of_eq (dn_eq d m)) $$ Hdn
  ihave Hheld := (Entails.of_eq (held_after d m).symm) $$ [Hcall Hrest]
  · isplitl [Hcall] <;> iassumption
  iapply (wp_hlo_within 𝒱 (SparseCore.T d) none Set.univ (op := op6) (S := allRefs) (show ({(Proc.devRef .tc (main_v5 : Ref sig .tc) : DevRef τ sig), (Proc.devRef .tc (main_v6 : Ref sig .tc) : DevRef τ sig)} : Finset (DevRef τ sig)) ⊆ allRefs by decide)) $$ [Hb Hheld]
  · isplitl [Hb] <;> iassumption
  iintro ⟨Hb, Hheld⟩
  rw [wp_ret]; imodintro; imodintro
  isplitl [Hst]; · iexact Hst
  isplitr [Hb Hts]
  · iexact Hheld
  isplitl [Hb] <;> iassumption

/-! ## The run -/

def fq (d : Dev nD) (s' : Phys nD τ sig (Elt F)) : Prop := ∀ b ∈ (allRefs : Finset (DevRef τ sig)), s'.mem.mem (d, b) = Ve d m b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) allRefs) $$ [HSI H]
  · isplitl [HSI] <;> iassumption
  ipureintro; exact h

def QC : PUnit × MemSt nD τ sig (Elt F) → Prop := fun r =>
  (∀ d : Dev nD, ∀ b ∈ (allRefs : Finset (DevRef τ sig)), r.2.mem (d, b) = Ve d m b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Sensors

end
-- ==== Proof.Ends.lean ====
/-
  What the run leaves, array by array: the arguments as they were, and the result, the rows of `rowOut` under the result's shape.
-/
module

public import proofs.«01_k».proof.Proof.Launch

@[expose] public section

noncomputable section

namespace Cert.Sensors

open Cert.KernelIdeal Cert.KernelIdeal.Gen
open Idealize.ShloMosaic Idealize.ShloMosaic.ValueIdx Idealize.SL.Sem
open Idealize.ShloMosaic.StableHlo (reshape_result reshape_result_ne)

variable {F : FTy → Type} [FloatOps F] (d : Dev nD) (m : (ℓ : Loc nD τ sig) → Buf (Elt F) ℓ)

/-- An array that no operation writes ends, and reaches the call, as it began. -/
theorem Vc_keep (r : Ref sig .tc) (h0 : r ≠ main_v0) (h1 : r ≠ main_v1) (h2 : r ≠ main_v2) (h3 : r ≠ main_v3) (h4 : r ≠ main_v4) :
    Vc d m (Proc.devRef .tc r : DevRef τ sig) = m (d, (Proc.devRef .tc r : DevRef τ sig)) := by
  unfold Vc
  exact (reshape_result_ne _ _ _ _ _ _ _ h4).trans ((reshape_result_ne _ _ _ _ _ _ _ h3).trans
    ((reshape_result_ne _ _ _ _ _ _ _ h2).trans ((reshape_result_ne _ _ _ _ _ _ _ h1).trans (reshape_result_ne _ _ _ _ _ _ _ h0))))

theorem Ve_keep (r : Ref sig .tc) (h0 : r ≠ main_v0) (h1 : r ≠ main_v1) (h2 : r ≠ main_v2) (h3 : r ≠ main_v3) (h4 : r ≠ main_v4)
    (h5 : r ≠ main_v5) (h6 : r ≠ main_v6) :
    Ve d m (Proc.devRef .tc r : DevRef τ sig) = m (d, (Proc.devRef .tc r : DevRef τ sig)) := by
  unfold Ve
  refine (reshape_result_ne _ _ _ _ _ _ _ h6).trans ?_
  unfold Vr
  rw [Function.update_of_ne (StableHlo.devRef_ne_of_ne h5)]
  exact Vc_keep d m r h0 h1 h2 h3 h4

theorem Ve_arg0 : Ve d m (Proc.devRef .tc (main_arg0 : Ref sig .tc) : DevRef τ sig) = m ((d.tc : Thread nD τ).loc main_arg0) :=
  Ve_keep d m main_arg0 (by decide) (by decide) (by decide) (by decide) (by decide) (by decide) (by decide)
theorem Ve_arg1 : Ve d m (Proc.devRef .tc (main_arg1 : Ref sig .tc) : DevRef τ sig) = m ((d.tc : Thread nD τ).loc main_arg1) :=
  Ve_keep d m main_arg1 (by decide) (by decide) (by decide) (by decide) (by decide) (by decide) (by decide)
theorem Ve_arg2 : Ve d m (Proc.devRef .tc (main_arg2 : Ref sig .tc) : DevRef τ sig) = m ((d.tc : Thread nD τ).loc main_arg2) :=
  Ve_keep d m main_arg2 (by decide) (by decide) (by decide) (by decide) (by decide) (by decide) (by decide)
theorem Ve_arg3 : Ve d m (Proc.devRef .tc (main_arg3 : Ref sig .tc) : DevRef τ sig) = m ((d.tc : Thread nD τ).loc main_arg3) :=
  Ve_keep d m main_arg3 (by decide) (by decide) (by decide) (by decide) (by decide) (by decide) (by decide)
theorem Ve_arg4 : Ve d m (Proc.devRef .tc (main_arg4 : Ref sig .tc) : DevRef τ sig) = m ((d.tc : Thread nD τ).loc main_arg4) :=
  Ve_keep d m main_arg4 (by decide) (by decide) (by decide) (by decide) (by decide) (by decide) (by decide)
theorem Ve_arg5 : Ve d m (Proc.devRef .tc (main_arg5 : Ref sig .tc) : DevRef τ sig) = m ((d.tc : Thread nD τ).loc main_arg5) :=
  Ve_keep d m main_arg5 (by decide) (by decide) (by decide) (by decide) (by decide) (by decide) (by decide)
theorem Ve_arg6 : Ve d m (Proc.devRef .tc (main_arg6 : Ref sig .tc) : DevRef τ sig) = m ((d.tc : Thread nD τ).loc main_arg6) :=
  Ve_keep d m main_arg6 (by decide) (by decide) (by decide) (by decide) (by decide) (by decide) (by decide)
theorem Ve_arg7 : Ve d m (Proc.devRef .tc (main_arg7 : Ref sig .tc) : DevRef τ sig) = m ((d.tc : Thread nD τ).loc main_arg7) :=
  Ve_keep d m main_arg7 (by decide) (by decide) (by decide) (by decide) (by decide) (by decide) (by decide)
theorem Ve_arg8 : Ve d m (Proc.devRef .tc (main_arg8 : Ref sig .tc) : DevRef τ sig) = m ((d.tc : Thread nD τ).loc main_arg8) :=
  Ve_keep d m main_arg8 (by decide) (by decide) (by decide) (by decide) (by decide) (by decide) (by decide)
theorem Ve_arg9 : Ve d m (Proc.devRef .tc (main_arg9 : Ref sig .tc) : DevRef τ sig) = m ((d.tc : Thread nD τ).loc main_arg9) :=
  Ve_keep d m main_arg9 (by decide) (by decide) (by decide) (by decide) (by decide) (by decide) (by decide)
theorem Ve_arg10 : Ve d m (Proc.devRef .tc (main_arg10 : Ref sig .tc) : DevRef τ sig) = m ((d.tc : Thread nD τ).loc main_arg10) :=
  Ve_keep d m main_arg10 (by decide) (by decide) (by decide) (by decide) (by decide) (by decide) (by decide)
theorem Ve_arg11 : Ve d m (Proc.devRef .tc (main_arg11 : Ref sig .tc) : DevRef τ sig) = m ((d.tc : Thread nD τ).loc main_arg11) :=
  Ve_keep d m main_arg11 (by decide) (by decide) (by decide) (by decide) (by decide) (by decide) (by decide)
theorem Ve_arg12 : Ve d m (Proc.devRef .tc (main_arg12 : Ref sig .tc) : DevRef τ sig) = m ((d.tc : Thread nD τ).loc main_arg12) :=
  Ve_keep d m main_arg12 (by decide) (by decide) (by decide) (by decide) (by decide) (by decide) (by decide)

/-- The result: the call's rows under the result's shape. -/
def outVal : Vec F S4096x4760x2 .f32 := shapeCast S4096x4760x2 (arrs d m).out shapeCasts_S4096x9520_S4096x4760x2

theorem Ve_v6 : Ve d m (Proc.devRef .tc (main_v6 : Ref sig .tc) : DevRef τ sig) = outVal d m := by
  unfold Ve
  refine (reshape_result _ _ _ _ _ _ _).trans ?_
  unfold Vr
  rw [Function.update_self]
  rfl

/-! ## The arrays the call is given, of the arguments -/

theorem arrs_x : (arrs d m).x = shapeCast S4096x9520 (m ((d.tc : Thread nD τ).loc main_arg0) : Vec F S4096x4760x2 .f32) shapeCasts_S4096x4760x2_S4096x9520 := by
  show op5.result (op4.result (op3.result (op2.result (op1.result (Vm d m))))) (Proc.devRef .tc (main_v0 : Ref sig .tc) : DevRef τ sig) = _
  rw [reshape_result_ne, reshape_result_ne, reshape_result_ne, reshape_result_ne, reshape_result]
  any_goals rfl
  all_goals decide

theorem arrs_ii : (arrs d m).ii = shapeCast S4096x512 (m ((d.tc : Thread nD τ).loc main_arg3) : IVec S4096x256x2 32) shapeCasts_S4096x256x2_S4096x512 := by
  show op5.result (op4.result (op3.result (op2.result (op1.result (Vm d m))))) (Proc.devRef .tc (main_v1 : Ref sig .tc) : DevRef τ sig) = _
  rw [reshape_result_ne, reshape_result_ne, reshape_result_ne, reshape_result, reshape_result_ne]
  any_goals rfl
  all_goals decide

theorem arrs_ip : (arrs d m).ip = shapeCast S4096x512 (m ((d.tc : Thread nD τ).loc main_arg2) : Vec F S4096x256x2 .f32) shapeCasts_S4096x256x2_S4096x512 := by
  show op5.result (op4.result (op3.result (op2.result (op1.result (Vm d m))))) (Proc.devRef .tc (main_v2 : Ref sig .tc) : DevRef τ sig) = _
  rw [reshape_result_ne, reshape_result_ne, reshape_result, reshape_result_ne, reshape_result_ne]
  any_goals rfl
  all_goals decide

theorem arrs_op : (arrs d m).op = shapeCast S4096x256 (m ((d.tc : Thread nD τ).loc main_arg5) : Vec F S4096x128x2 .f32) shapeCasts_S4096x128x2_S4096x256 := by
  show op5.result (op4.result (op3.result (op2.result (op1.result (Vm d m))))) (Proc.devRef .tc (main_v3 : Ref sig .tc) : DevRef τ sig) = _
  rw [reshape_result_ne, reshape_result, reshape_result_ne, reshape_result_ne, reshape_result_ne]
  any_goals rfl
  all_goals decide

theorem arrs_tp : (arrs d m).tp = shapeCast S4096x128 (m ((d.tc : Thread nD τ).loc main_arg8) : Vec F S4096x64x2 .f32) shapeCasts_S4096x64x2_S4096x128 := by
  show op5.result (op4.result (op3.result (op2.result (op1.result (Vm d m))))) (Proc.devRef .tc (main_v4 : Ref sig .tc) : DevRef τ sig) = _
  rw [reshape_result, reshape_result_ne, reshape_result_ne, reshape_result_ne, reshape_result_ne]
  any_goals rfl
  all_goals decide

theorem arrs_os : (arrs d m).os = m ((d.tc : Thread nD τ).loc main_arg6) :=
  Vc_keep d m main_arg6 (by decide) (by decide) (by decide) (by decide) (by decide)
theorem arrs_ti : (arrs d m).ti = m ((d.tc : Thread nD τ).loc main_arg9) :=
  Vc_keep d m main_arg9 (by decide) (by decide) (by decide) (by decide) (by decide)
theorem arrs_itab : (arrs d m).itab = m ((d.tc : Thread nD τ).loc main_arg11) :=
  Vc_keep d m main_arg11 (by decide) (by decide) (by decide) (by decide) (by decide)
theorem arrs_ttab : (arrs d m).ttab = m ((d.tc : Thread nD τ).loc main_arg12) :=
  Vc_keep d m main_arg12 (by decide) (by decide) (by decide) (by decide) (by decide)

/-! ## The run, array by array -/

/-- On every device the arguments end as they began, the result is `outVal`, and every counter is zero. -/
theorem run_args {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨(h.1 c _ (show (Proc.devRef .tc (main_arg0 : Ref sig .tc) : DevRef τ sig) ∈ allRefs by decide)).trans (Ve_arg0 c m),
   (h.1 c _ (show (Proc.devRef .tc (main_arg1 : Ref sig .tc) : DevRef τ sig) ∈ allRefs by decide)).trans (Ve_arg1 c m),
   (h.1 c _ (show (Proc.devRef .tc (main_arg2 : Ref sig .tc) : DevRef τ sig) ∈ allRefs by decide)).trans (Ve_arg2 c m),
   (h.1 c _ (show (Proc.devRef .tc (main_arg3 : Ref sig .tc) : DevRef τ sig) ∈ allRefs by decide)).trans (Ve_arg3 c m),
   (h.1 c _ (show (Proc.devRef .tc (main_arg4 : Ref sig .tc) : DevRef τ sig) ∈ allRefs by decide)).trans (Ve_arg4 c m),
   (h.1 c _ (show (Proc.devRef .tc (main_arg5 : Ref sig .tc) : DevRef τ sig) ∈ allRefs by decide)).trans (Ve_arg5 c m),
   (h.1 c _ (show (Proc.devRef .tc (main_arg6 : Ref sig .tc) : DevRef τ sig) ∈ allRefs by decide)).trans (Ve_arg6 c m),
   (h.1 c _ (show (Proc.devRef .tc (main_arg7 : Ref sig .tc) : DevRef τ sig) ∈ allRefs by decide)).trans (Ve_arg7 c m),
   (h.1 c _ (show (Proc.devRef .tc (main_arg8 : Ref sig .tc) : DevRef τ sig) ∈ allRefs by decide)).trans (Ve_arg8 c m),
   (h.1 c _ (show (Proc.devRef .tc (main_arg9 : Ref sig .tc) : DevRef τ sig) ∈ allRefs by decide)).trans (Ve_arg9 c m),
   (h.1 c _ (show (Proc.devRef .tc (main_arg10 : Ref sig .tc) : DevRef τ sig) ∈ allRefs by decide)).trans (Ve_arg10 c m),
   (h.1 c _ (show (Proc.devRef .tc (main_arg11 : Ref sig .tc) : DevRef τ sig) ∈ allRefs by decide)).trans (Ve_arg11 c m),
   (h.1 c _ (show (Proc.devRef .tc (main_arg12 : Ref sig .tc) : DevRef τ sig) ∈ allRefs by decide)).trans (Ve_arg12 c m)⟩

theorem run_out {r : PUnit × MemSt nD τ sig (Elt F)} (h : QC m r) (c : Dev nD) :
    r.2.mem ((c.tc : Thread nD τ).loc main_v6) = outVal c m :=
  (h.1 c _ (show (Proc.devRef .tc (main_v6 : Ref sig .tc) : DevRef τ sig) ∈ allRefs by decide)).trans (Ve_v6 c m)

end Cert.Sensors

end
-- ==== Proof.Frames.lean ====
/-
  The frames: every array given comes back as it was, and every counter ends at zero.
-/
module

public import proofs.«01_k».proof.Defs
public import proofs.«01_k».proof.Proof.Gen.Kernel
public import proofs.«01_k».proof.Proof.Gen.Pre_entries_in_range
public import proofs.«01_k».proof.Proof.Gen.ReferenceIdeal
public import proofs.«01_k».proof.Proof.Gen.ReferenceIdeal.Run
public import proofs.«01_k».proof.Proof.Ends

@[expose] public section

noncomputable section

namespace Cert.Sensors

open Idealize.ShloMosaic Idealize.SL.Sem

/-- The kernel at the ideal numbers. -/
theorem frame_ideal : Cert.quiescent_KernelIdeal := fun m ρ _ =>
  (θ_run Cert.KernelIdeal.defs _ _).mono (fun _ h => ⟨fun c => run_args m h c, h.2⟩) (run_main (F := Ideal) m ρ)

theorem frame_ideal_pre : Cert.quiescent_KernelIdeal_pre_entries_in_range := fun m ρ _ => frame_ideal m ρ trivial

/-- The kernel at the machine's numbers: the same text. -/
theorem frame_kernel : Cert.quiescent_Kernel := fun m ρ _ =>
  (θ_run Cert.KernelIdeal.defs _ _).mono (fun _ h => ⟨fun c => run_args m h c, h.2⟩) (run_main (F := Bits) m ρ)

/-- The reference at the ideal numbers. It has no counters. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_ref_pre : Cert.quiescent_ReferenceIdeal_pre_entries_in_range := fun m ρ _ => frame_ref m ρ trivial

end Cert.Sensors

end
-- ==== Proof.Scatter.lean ====
/-
  A scatter by pairs of index words, each update a pair of numbers, read at one element. The updates of one row stand together,
  so at row `r` only that row's block of updates counts, and there the last that lands stays. Nothing here names a program.
-/
module

public import proofs.«01_k».proof.Proof.Spec
public import Idealize.ShloMosaic.Lib.Routing.OpsPair
public import Idealize.ShloMosaic.Lib.Pipeline.Value
public import Idealize.ShloMosaic.Lib.IdealHost
public import Idealize.ShloMosaic.Lib.WordCmp
public import Idealize.ShloMosaic.Lib.ShapeFacts

@[expose] public section

noncomputable section

namespace Cert.Sensors

open Idealize.ShloMosaic Idealize.ShloMosaic.ValueIdx Idealize.ShloMosaic.LaneScatter Idealize.ShloMosaic.Routing

/-! ## The last hit in a block -/

/-- If everything that hits lies in one block, only the block counts. -/
theorem lastHit_block {α : Type} (hit : ℕ → Prop) [DecidablePred hit] (val : ℕ → α) (fill : α) (a b c : ℕ)
    (h : ∀ n, n < a + b + c → hit n → a ≤ n ∧ n < a + b) :
    lastHit hit val fill (a + b + c) = lastHit (fun t => hit (a + t)) (fun t => val (a + t)) fill b := by
  have e0 : lastHit hit val fill a = fill := lastHit_of_none _ _ (fun k hk hh => by have := h k (by omega) hh; omega)
  rw [lastHit_add hit val fill (a + b) c, lastHit_of_none _ _ (fun k hk hh => by have := h (a + b + k) (by omega) hh; omega),
    lastHit_add hit val fill a b, e0]

/-! ## Where an update lands -/

/-- The scatter's dimensions: update `(k, p)` of an `[N, 2]` table goes to entry `p` of the pair its two words name. -/
abbrev pairDims (A B N : ℕ) (wf : ScatterDims.WF ⟨3, ![A, B, 2]⟩ ⟨2, ![N, 2]⟩ ⟨2, ![N, 2]⟩ [1] [0, 1] [0, 1] 1) :
    ScatterDims ⟨3, ![A, B, 2]⟩ ⟨2, ![N, 2]⟩ ⟨2, ![N, 2]⟩ where
  updateWindowDims := [1]
  insertedWindowDims := [0, 1]
  scatterDimsToOperandDims := [0, 1]
  indexVectorDim := 1
  wf := wf

section
variable {A B N : ℕ} (wf : ScatterDims.WF ⟨3, ![A, B, 2]⟩ ⟨2, ![N, 2]⟩ ⟨2, ![N, 2]⟩ [1] [0, 1] [0, 1] 1)

theorem pair_window_ins (j : (⟨2, ![N, 2]⟩ : Shape).Idx) (q : Fin 3) (hq : q ∈ ([0, 1] : List (Fin 3))) : (pairDims A B N wf).window j q = 0 := by
  unfold ScatterDims.window
  exact dif_neg fun h => (of_decide_eq_true (List.mem_filter.1 h).2) hq

theorem pair_window_two (k : Fin N) (p : Fin 2) : (pairDims A B N wf).window (ix2 k p) 2 = p.val := by
  unfold ScatterDims.window
  refine (dif_pos (List.mem_filter.2 ⟨List.mem_finRange _, decide_eq_true (by decide : (2 : Fin 3) ∉ ([0, 1] : List (Fin 3)))⟩)).trans ?_
  have e : (pairDims A B N wf).updateWindowDims[(pairDims A B N wf).sKept.idxOf 2]'(by
      rw [(pairDims A B N wf).window_length]
      exact List.idxOf_lt_length_iff.2 (List.mem_filter.2 ⟨List.mem_finRange _, decide_eq_true (by decide : (2 : Fin 3) ∉ ([0, 1] : List (Fin 3)))⟩)) = (1 : Fin 2) := rfl
  rw [e]

theorem pair_siIdx (k : Fin N) (p : Fin 2) (q : Fin 2) (h : q.val < (pairDims A B N wf).scatterDimsToOperandDims.length) :
    (pairDims A B N wf).siIdx (ix2 k p) ⟨q.val, h⟩ = ix2 k q := by
  funext b
  match b with
  | ⟨0, _⟩ =>
    unfold ScatterDims.siIdx
    rw [dif_neg (show ¬ (0 : ℕ) = 1 by decide)]
    rfl
  | ⟨1, _⟩ =>
    unfold ScatterDims.siIdx
    rw [dif_pos (show (1 : ℕ) = 1 from rfl)]
    rfl

theorem pair_lands {w : ℕ} (idx : IVec ⟨2, ![N, 2]⟩ w) (k : Fin N) (p : Fin 2) (r : Fin A) (s : Fin B) (q : Fin 2) :
    (pairDims A B N wf).resultIdx? (ix2 k p) idx = some (ix3 r s q)
      ↔ (idx (ix2 k 0)).toInt = r.val ∧ (idx (ix2 k 1)).toInt = s.val ∧ p.val = q.val := by
  have h0 : (pairDims A B N wf).start (ix2 k p) idx 0 = (idx (ix2 k 0)).toInt := by
    unfold ScatterDims.start
    rw [dif_pos (by decide : (0 : Fin 3) ∈ ([0, 1] : List (Fin 3)))]
    exact congrArg (fun i => (idx i).toInt) (pair_siIdx wf k p 0 _)
  have h1 : (pairDims A B N wf).start (ix2 k p) idx 1 = (idx (ix2 k 1)).toInt := by
    unfold ScatterDims.start
    rw [dif_pos (by decide : (1 : Fin 3) ∈ ([0, 1] : List (Fin 3)))]
    exact congrArg (fun i => (idx i).toInt) (pair_siIdx wf k p 1 _)
  have h2 : (pairDims A B N wf).start (ix2 k p) idx 2 = 0 := by
    unfold ScatterDims.start
    exact dif_neg (by decide : (2 : Fin 3) ∉ ([0, 1] : List (Fin 3)))
  have w0 := pair_window_ins wf (ix2 k p) 0 (by decide)
  have w1 := pair_window_ins wf (ix2 k p) 1 (by decide)
  have w2 := pair_window_two wf k p
  rw [resultIdx?_eq_some]
  constructor
  · intro h
    have a0 := h 0
    have a1 := h 1
    have a2 := h 2
    rw [h0, w0] at a0
    rw [h1, w1] at a1
    rw [h2, w2] at a2
    change _ = ((r.val : ℕ) : Int) at a0
    change _ = ((s.val : ℕ) : Int) at a1
    change _ = ((q.val : ℕ) : Int) at a2
    omega
  · intro ⟨e0, e1, e2⟩ a
    match a with
    | ⟨0, _⟩ => exact (congrArg₂ (fun (x : Int) (y : ℕ) => x + (y : Int)) h0 w0).trans ((Int.add_zero _).trans e0)
    | ⟨1, _⟩ => exact (congrArg₂ (fun (x : Int) (y : ℕ) => x + (y : Int)) h1 w1).trans ((Int.add_zero _).trans e1)
    | ⟨2, _⟩ => exact (congrArg₂ (fun (x : Int) (y : ℕ) => x + (y : Int)) h2 w2).trans ((Int.zero_add _).trans (congrArg Nat.cast e2))

/-! ## The scatter at one element -/

/-- The scatter at row `r`, sensor `s`, number `p`: of row `r`'s updates the last that names the sensor. -/
theorem scatter_row {α : Type} (E : ℕ) (hE : 0 < E) (hN : N = A * E) (hA : A ≤ 2 ^ 31) (x : (⟨3, ![A, B, 2]⟩ : Shape).Idx → α)
    (idx : IVec ⟨2, ![N, 2]⟩ 32) (upd : (⟨2, ![N, 2]⟩ : Shape).Idx → α) (sid : ℕ → ℕ → ℕ) (val : ℕ → ℕ → α)
    (hrow : ∀ k : Fin N, idx (ix2 k 0) = BitVec.ofNat 32 (k.val / E))
    (hsid : ∀ k : Fin N, (idx (ix2 k 1)).toInt = (sid (k.val / E) (k.val % E) : Int))
    (hval : ∀ (k : Fin N) (p : Fin 2), upd (ix2 k p) = val (k.val / E) (2 * (k.val % E) + p.val))
    (r : Fin A) (s : Fin B) (p : Fin 2) :
    Host.scatter (pairDims A B N wf) (fun _ b => b) x idx upd (ix3 r s p)
      = lastHit (fun n => 2 * sid r.val (n / 2) + n % 2 = 2 * s.val + p.val) (val r.val) (x (ix3 r s p)) (2 * E) := by
  have hnum : (⟨2, ![N, 2]⟩ : Shape).numel = N * 2 := Shape.numel_rank2 _
  rw [scatter_at]
  have step : ∀ (a : α) (n : Fin (⟨2, ![N, 2]⟩ : Shape).numel),
      (if (pairDims A B N wf).resultIdx? ((⟨2, ![N, 2]⟩ : Shape).rowMajor.symm n) idx = some (ix3 r s p) then upd ((⟨2, ![N, 2]⟩ : Shape).rowMajor.symm n) else a)
        = if n.val / 2 / E = r.val ∧ sid (n.val / 2 / E) (n.val / 2 % E) = s.val ∧ n.val % 2 = p.val
            then val (n.val / 2 / E) (2 * (n.val / 2 % E) + n.val % 2) else a := by
    intro a n
    have hn : n.val < N * 2 := Nat.lt_of_lt_of_eq n.isLt hnum
    have hk : n.val / 2 < N := by omega
    have hdiv : n.val / 2 / E < A := Nat.div_lt_of_lt_mul (by rw [Nat.mul_comm]; omega)
    rw [symm22 (A := N) (B := 2) n hk (Nat.mod_lt _ (by decide)), hval]
    refine if_congr ?_ rfl rfl
    rw [pair_lands, hrow, hsid]
    have ht : (BitVec.ofNat 32 (n.val / 2 / E)).toInt = ((n.val / 2 / E : ℕ) : Int) := by
      have : (BitVec.ofNat 32 (n.val / 2 / E)).toNat = n.val / 2 / E := by
        rw [BitVec.toNat_ofNat]; exact Nat.mod_eq_of_lt (by omega)
      rw [BitVec.toInt_eq_toNat_cond, this]; split <;> omega
    show (BitVec.ofNat 32 (n.val / 2 / E)).toInt = _ ∧ ((sid (n.val / 2 / E) (n.val / 2 % E) : ℕ) : Int) = _ ∧ n.val % 2 = p.val ↔ _
    rw [ht]
    exact and_congr Int.natCast_inj (and_congr_left' Int.natCast_inj)
  refine (congrArg (fun f => List.foldl f _ _) (funext fun a => funext fun n => step a n)).trans ?_
  refine (foldl_finRange_lastHit (fun n => n / 2 / E = r.val ∧ sid (n / 2 / E) (n / 2 % E) = s.val ∧ n % 2 = p.val)
    (fun n => val (n / 2 / E) (2 * (n / 2 % E) + n % 2)) (x (ix3 r s p)) _).trans ?_
  have hr := r.isLt
  obtain ⟨c, hc⟩ : ∃ c, A = r.val + 1 + c := ⟨A - (r.val + 1), by omega⟩
  have hlen : (⟨2, ![N, 2]⟩ : Shape).numel = 2 * E * r.val + 2 * E + 2 * E * c := by
    rw [hnum, hN, show A * E = (r.val + 1 + c) * E from congrArg (· * E) hc]; ring
  rw [hlen, lastHit_block]
  · refine lastHit_congr _ (fun k hk => ?_) (fun k hk _ => ?_)
    · have e1 : (2 * E * r.val + k) / 2 = E * r.val + k / 2 := by rw [Nat.mul_assoc]; omega
      have e2 : (2 * E * r.val + k) % 2 = k % 2 := by rw [Nat.mul_assoc]; omega
      have hk2 : k / 2 < E := by omega
      rw [e1, e2, Nat.mul_add_div hE, Nat.div_eq_of_lt hk2, Nat.mul_add_mod, Nat.mod_eq_of_lt hk2, Nat.add_zero]
      have := p.isLt
      constructor
      · rintro ⟨_, h1, h2⟩; omega
      · intro h; refine ⟨rfl, ?_, ?_⟩ <;> omega
    · have e1 : (2 * E * r.val + k) / 2 = E * r.val + k / 2 := by rw [Nat.mul_assoc]; omega
      have e2 : (2 * E * r.val + k) % 2 = k % 2 := by rw [Nat.mul_assoc]; omega
      have hk2 : k / 2 < E := by omega
      show val ((2 * E * r.val + k) / 2 / E) (2 * ((2 * E * r.val + k) / 2 % E) + (2 * E * r.val + k) % 2) = val r.val k
      rw [e1, e2, Nat.mul_add_div hE, Nat.div_eq_of_lt hk2, Nat.mul_add_mod, Nat.mod_eq_of_lt hk2, Nat.add_zero, Nat.div_add_mod]
  · rintro n _ ⟨h1, _⟩
    have h2 := Nat.div_add_mod (n / 2) E
    have h3 := Nat.mod_lt (n / 2) hE
    rw [h1] at h2
    rw [Nat.mul_assoc]
    omega

end

end Cert.Sensors

end
-- ==== Proof.Cols.lean ====
/-
  The reference's scatter with its two columns of index words as it builds them: the row's number, counted along the axis of
  events and repeated for every entry, and the sensor, each wrapped where negative. Read at one element. Nothing here names a program.
-/
module

public import proofs.«01_k».proof.Proof.Scatter
public import proofs.«01_k».proof.Proof.Rows

@[expose] public section

noncomputable section

namespace Cert.Sensors

open Idealize.ShloMosaic Idealize.ShloMosaic.ValueIdx Idealize.ShloMosaic.LaneScatter Idealize.ShloMosaic.Routing

section
variable {α : Type} {E N M : ℕ}

theorem div_lt_rows (hN : N = 4096 * E) (k : Fin N) : k.val / E < 4096 :=
  Nat.div_lt_of_lt_mul (by rw [Nat.mul_comm, ← hN]; exact k.isLt)

/-- A matrix of rows flattened. -/
theorem flat_apply (hE : 0 < E) (hN : N = 4096 * E) (S : (⟨2, ![4096, E]⟩ : Shape).Idx → α) (h : (⟨2, ![4096, E]⟩ : Shape).ShapeCasts ⟨1, ![N]⟩) (k : Fin N) :
    shapeCast ⟨1, ![N]⟩ S h (ix1 k) = S (ix2 ⟨k.val / E, div_lt_rows hN k⟩ ⟨k.val % E, Nat.mod_lt _ hE⟩) := by
  refine shapeCast_apply _ _ _ _ ?_
  rw [Shape.rowMajor_val_two, Shape.rowMajor_val_one]
  show k.val / E * E + k.val % E = k.val
  exact Nat.div_add_mod' _ _

/-- Pairs flattened two ways. -/
theorem pairs_apply (hE : 0 < E) (hN : N = 4096 * E) (hM : M = 2 * E) (X : (⟨3, ![4096, E, 2]⟩ : Shape).Idx → α)
    (h : (⟨3, ![4096, E, 2]⟩ : Shape).ShapeCasts ⟨2, ![N, 2]⟩) (k : Fin N) (p : Fin 2) :
    shapeCast ⟨2, ![N, 2]⟩ X h (ix2 k p) = X (ix3 ⟨k.val / E, div_lt_rows hN k⟩ ⟨k.val % E, Nat.mod_lt _ hE⟩ p) := by
  refine shapeCast_apply _ _ _ _ ?_
  rw [Shape.rowMajor_val_two, Shape.rowMajor_val_three]
  show (k.val / E * E + k.val % E) * 2 + p.val = k.val * 2 + p.val
  rw [Nat.div_add_mod']

theorem line_pairs [NeZero M] (hM : M = 2 * E) (X : (⟨3, ![4096, E, 2]⟩ : Shape).Idx → α)
    (h : (⟨3, ![4096, E, 2]⟩ : Shape).ShapeCasts ⟨2, ![4096, M]⟩) (r : Fin 4096) (e : Fin E) (p : Fin 2) :
    at1 (line (shapeCast ⟨2, ![4096, M]⟩ X h) r) (2 * e.val + p.val) = X (ix3 r e p) := by
  have he := e.isLt
  have hp := p.isLt
  have hlt : 2 * e.val + p.val < M := by omega
  refine (at1_val (line (shapeCast ⟨2, ![4096, M]⟩ X h) r) ⟨2 * e.val + p.val, hlt⟩).trans ?_
  show shapeCast ⟨2, ![4096, M]⟩ X h (ix2 r ⟨2 * e.val + p.val, hlt⟩) = _
  refine shapeCast_apply _ _ _ _ ?_
  rw [Shape.rowMajor_val_two, Shape.rowMajor_val_three]
  show (r.val * E + e.val) * 2 + p.val = r.val * M + (2 * e.val + p.val)
  rw [hM, Nat.add_mul, Nat.mul_comm e.val 2, Nat.mul_comm 2 E, ← Nat.mul_assoc]
  omega

theorem toInt_of_small (w : BitVec 32) (h : w.toNat < 2 ^ 31) : w.toInt = (w.toNat : Int) := by
  rw [BitVec.toInt_eq_toNat_cond]; split <;> omega

/-- A word that is not negative is left by the wrap. -/
theorem wrap_apply {s : Shape} (R : IVec s 32) (hb : (⟨0, ![]⟩ : Shape).BroadcastsInDim s ![]) (a : IVec s 32) (j : s.Idx) (h : (R j).toNat < 2 ^ 31) :
    select (cmpi .slt R (broadcastInDim s ![] hb (constantI ⟨0, ![]⟩ 32 0#32))) a R j = R j :=
  wrap_of_lt (w := 32) (R j) (a j) h

/-- The two columns side by side. -/
theorem cols_left (R S : IVec ⟨1, ![N]⟩ 32) (hb : (⟨1, ![N]⟩ : Shape).BroadcastsInDim ⟨2, ![N, 1]⟩ ![0])
    (hc : Shape.Concatenates [⟨2, ![N, 1]⟩, ⟨2, ![N, 1]⟩] ⟨2, ![N, 2]⟩ 1) (k : Fin N) :
    concatenate ⟨2, ![N, 2]⟩ 1 [⟨⟨2, ![N, 1]⟩, broadcastInDim ⟨2, ![N, 1]⟩ ![0] hb R⟩, ⟨⟨2, ![N, 1]⟩, broadcastInDim ⟨2, ![N, 1]⟩ ![0] hb S⟩] hc (ix2 k 0) = R (ix1 k) := by
  refine (concatenate_pair_apply_left 1 _ _ hc _ rfl (ix2 k (0 : Fin 1)) fun b => ?_).trans ?_
  · match b with
    | ⟨0, _⟩ => rfl
    | ⟨1, _⟩ => rfl
  · refine broadcastInDim_apply _ _ _ _ _ fun a => ?_
    match a with
    | ⟨0, _⟩ =>
      show k.val = if N = 1 then 0 else k.val
      split
      · have := k.isLt; omega
      · rfl

theorem cols_right (R S : IVec ⟨1, ![N]⟩ 32) (hb : (⟨1, ![N]⟩ : Shape).BroadcastsInDim ⟨2, ![N, 1]⟩ ![0])
    (hc : Shape.Concatenates [⟨2, ![N, 1]⟩, ⟨2, ![N, 1]⟩] ⟨2, ![N, 2]⟩ 1) (k : Fin N) :
    concatenate ⟨2, ![N, 2]⟩ 1 [⟨⟨2, ![N, 1]⟩, broadcastInDim ⟨2, ![N, 1]⟩ ![0] hb R⟩, ⟨⟨2, ![N, 1]⟩, broadcastInDim ⟨2, ![N, 1]⟩ ![0] hb S⟩] hc (ix2 k 1) = S (ix1 k) := by
  refine (concatenate_pair_apply_right 1 _ _ hc _ rfl rfl (ix2 k (0 : Fin 1)) (fun b hb => ?_) rfl).trans ?_
  · match b, hb with
    | ⟨0, _⟩, _ => rfl
    | ⟨1, _⟩, hb => exact absurd rfl hb
  · refine broadcastInDim_apply _ _ _ _ _ fun a => ?_
    match a with
    | ⟨0, _⟩ =>
      show k.val = if N = 1 then 0 else k.val
      split
      · have := k.isLt; omega
      · rfl

/-- The row's number, repeated along the entries and flattened. -/
theorem rowNo_apply (hE : 0 < E) (hN : N = 4096 * E) (h1 : (⟨1, ![4096]⟩ : Shape).BroadcastsInDim ⟨2, ![4096, 1]⟩ ![0])
    (h2 : (⟨2, ![4096, 1]⟩ : Shape).BroadcastsInDim ⟨2, ![4096, E]⟩ ![0, 1]) (h : (⟨2, ![4096, E]⟩ : Shape).ShapeCasts ⟨1, ![N]⟩) (k : Fin N) :
    shapeCast ⟨1, ![N]⟩ (broadcastInDim ⟨2, ![4096, E]⟩ ![0, 1] h2 (broadcastInDim ⟨2, ![4096, 1]⟩ ![0] h1 (iotaInDim ⟨1, ![4096]⟩ 32 0))) h (ix1 k)
      = BitVec.ofNat 32 (k.val / E) := by
  rw [flat_apply hE hN]
  refine (broadcastInDim_apply _ _ _ _ (ix2 ⟨k.val / E, div_lt_rows hN k⟩ (0 : Fin 1)) fun a => ?_).trans ?_
  · match a with
    | ⟨0, _⟩ => rfl
    | ⟨1, _⟩ => rfl
  · refine (broadcastInDim_apply _ _ _ _ (ix1 ⟨k.val / E, div_lt_rows hN k⟩) fun a => ?_).trans rfl
    match a with
    | ⟨0, _⟩ => rfl

/-- The scatter at row `r`, sensor `s`, number `p`, when every entry's word names a sensor. -/
theorem scatter_cols [NeZero M] (hE : 0 < E) (hN : N = 4096 * E) (hM : M = 2 * E)
    (wf : ScatterDims.WF ⟨3, ![4096, 4760, 2]⟩ ⟨2, ![N, 2]⟩ ⟨2, ![N, 2]⟩ [1] [0, 1] [0, 1] 1)
    (h1 : (⟨1, ![4096]⟩ : Shape).BroadcastsInDim ⟨2, ![4096, 1]⟩ ![0])
    (h2 : (⟨2, ![4096, 1]⟩ : Shape).BroadcastsInDim ⟨2, ![4096, E]⟩ ![0, 1]) (h3 : (⟨2, ![4096, E]⟩ : Shape).ShapeCasts ⟨1, ![N]⟩)
    (h4 : (⟨0, ![]⟩ : Shape).BroadcastsInDim ⟨1, ![N]⟩ ![]) (h5 : (⟨1, ![N]⟩ : Shape).BroadcastsInDim ⟨2, ![N, 1]⟩ ![0])
    (hc : Shape.Concatenates [⟨2, ![N, 1]⟩, ⟨2, ![N, 1]⟩] ⟨2, ![N, 2]⟩ 1)
    (h6 : (⟨3, ![4096, E, 2]⟩ : Shape).ShapeCasts ⟨2, ![N, 2]⟩) (h7 : (⟨3, ![4096, E, 2]⟩ : Shape).ShapeCasts ⟨2, ![4096, M]⟩)
    (x : (⟨3, ![4096, 4760, 2]⟩ : Shape).Idx → α) (S : IVec ⟨2, ![4096, E]⟩ 32) (X : (⟨3, ![4096, E, 2]⟩ : Shape).Idx → α) (a b : IVec ⟨1, ![N]⟩ 32)
    (sid : Fin 4096 → ℕ → ℕ) (hS : ∀ (r : Fin 4096) (e : Fin E), (S (ix2 r e)).toNat = sid r e.val) (hlt : ∀ r e, sid r e < 2 ^ 31)
    (r : Fin 4096) (s : Fin 4760) (p : Fin 2) :
    Host.scatter (pairDims 4096 4760 N wf) (fun _ b => b) x
      (concatenate ⟨2, ![N, 2]⟩ 1
        [⟨⟨2, ![N, 1]⟩, broadcastInDim ⟨2, ![N, 1]⟩ ![0] h5
            (select (cmpi .slt (shapeCast ⟨1, ![N]⟩ (broadcastInDim ⟨2, ![4096, E]⟩ ![0, 1] h2 (broadcastInDim ⟨2, ![4096, 1]⟩ ![0] h1 (iotaInDim ⟨1, ![4096]⟩ 32 0))) h3)
                (broadcastInDim ⟨1, ![N]⟩ ![] h4 (constantI ⟨0, ![]⟩ 32 0#32))) a
              (shapeCast ⟨1, ![N]⟩ (broadcastInDim ⟨2, ![4096, E]⟩ ![0, 1] h2 (broadcastInDim ⟨2, ![4096, 1]⟩ ![0] h1 (iotaInDim ⟨1, ![4096]⟩ 32 0))) h3))⟩,
          ⟨⟨2, ![N, 1]⟩, broadcastInDim ⟨2, ![N, 1]⟩ ![0] h5
            (select (cmpi .slt (shapeCast ⟨1, ![N]⟩ S h3) (broadcastInDim ⟨1, ![N]⟩ ![] h4 (constantI ⟨0, ![]⟩ 32 0#32))) b (shapeCast ⟨1, ![N]⟩ S h3))⟩] hc)
      (shapeCast ⟨2, ![N, 2]⟩ X h6) (ix3 r s p)
      = lastHit (fun n => 2 * sid r (n / 2) + n % 2 = 2 * s.val + p.val) (at1 (line (shapeCast ⟨2, ![4096, M]⟩ X h7) r)) (x (ix3 r s p)) M := by
  subst hM
  have hof : ∀ q : Fin 4096, Fin.ofNat 4096 q.val = q := fun q => Fin.ext (Nat.mod_eq_of_lt q.isLt)
  refine (scatter_row wf E hE hN (by omega) x _ _ (fun q e => sid (Fin.ofNat 4096 q) e)
    (fun q n => at1 (line (shapeCast ⟨2, ![4096, 2 * E]⟩ X h7) (Fin.ofNat 4096 q)) n) (fun k => ?_) (fun k => ?_) (fun k q => ?_) r s p).trans ?_
  · rw [cols_left, wrap_apply, rowNo_apply hE hN]
    rw [rowNo_apply hE hN, BitVec.toNat_ofNat]
    have := div_lt_rows hN k
    exact lt_of_le_of_lt (Nat.mod_le _ _) (by omega)
  · have e1 : (S (ix2 ⟨k.val / E, div_lt_rows hN k⟩ ⟨k.val % E, Nat.mod_lt _ hE⟩)).toNat = sid (Fin.ofNat 4096 (k.val / E)) (k.val % E) := by
      rw [hS]
      exact congrArg (fun q => sid q (k.val % E)) (hof ⟨k.val / E, div_lt_rows hN k⟩).symm
    have e2 := hlt (Fin.ofNat 4096 (k.val / E)) (k.val % E)
    rw [cols_right, wrap_apply, flat_apply hE hN, toInt_of_small _ (by omega), e1]
    rw [flat_apply hE hN, e1]; exact e2
  · rw [pairs_apply hE hN rfl]
    refine (line_pairs rfl X h7 _ _ _).symm.trans ?_
    exact congrArg (fun t => at1 (line (shapeCast ⟨2, ![4096, 2 * E]⟩ X h7) t) (2 * (k.val % E) + q.val)) (hof ⟨k.val / E, div_lt_rows hN k⟩).symm
  · simp only [hof]

end

end Cert.Sensors

end
-- ==== Proof.Sensors.lean ====
/-
  The reference's sensors, entry by entry: a table read at a clipped place, and the choice between the sensor and the place past
  the last, which keeps every sensor in range. Nothing here names a program.
-/
module

public import proofs.«01_k».proof.Proof.Cols

@[expose] public section

noncomputable section

namespace Cert.Sensors

open Idealize.ShloMosaic Idealize.ShloMosaic.ValueIdx Idealize.ShloMosaic.Routing

/-! ## Words in range -/

theorem sge_zero (w : BitVec 32) (h : w.toNat < 4760) : IntOp.cmpi .sge w 0#32 = 1#1 := by
  have e := toInt_of_small w (by omega)
  have : BitVec.sle 0#32 w = true := by rw [BitVec.sle_eq_decide, e]; simp
  simp only [IntOp.cmpi, this]; rfl

theorem slt_hi (w : BitVec 32) (h : w.toNat < 4760) : IntOp.cmpi .slt w 4760#32 = 1#1 := by
  have e := toInt_of_small w (by omega)
  have : BitVec.slt w 4760#32 = true := by
    rw [BitVec.slt_eq_decide, e, show (4760#32 : BitVec 32).toInt = 4760 from by decide]; simp; omega
  simp only [IntOp.cmpi, this]; rfl

/-- Both comparisons of the precondition, read back. -/
theorem in_range (w : BitVec 32) (h : IntOp.andi (IntOp.cmpi .sge w 0#32) (IntOp.cmpi .slt w 4760#32) = 1#1) : w.toNat < 4760 := by
  have e : (4760#32 : BitVec 32).toInt = 4760 := by decide
  have hw := w.isLt
  have hc := BitVec.toInt_eq_toNat_cond w
  by_cases h1 : BitVec.sle 0#32 w = true
  · by_cases h2 : BitVec.slt w 4760#32 = true
    · rw [BitVec.sle_eq_decide, decide_eq_true_eq, BitVec.toInt_zero] at h1
      rw [BitVec.slt_eq_decide, decide_eq_true_eq, e] at h2
      split at hc <;> omega
    · simp only [IntOp.cmpi, IntOp.andi, Bool.not_eq_true _ ▸ h2] at h
      exfalso; revert h; cases BitVec.sle 0#32 w <;> decide
  · simp only [IntOp.cmpi, IntOp.andi, Bool.not_eq_true _ ▸ h1] at h
    exfalso; revert h; cases BitVec.slt w 4760#32 <;> decide

/-- A word in range is its own clip. -/
theorem clip_self (w : BitVec 32) (h : w.toNat < 4760) : clipN 4759 w = w.toNat := by
  unfold clipN; rw [toInt_of_small w (by omega)]; simp; omega

section
variable {E : ℕ}

/-! ## The choice that keeps -/

theorem keep_apply {s : Shape} (v : IVec s 1) (g : IVec s 32) (h : (⟨0, ![]⟩ : Shape).BroadcastsInDim s ![]) (z : IVec s 32) (j : s.Idx)
    (hv : v j = 1#1) (hg : (g j).toNat < 4760) :
    select (andi (andi v (cmpi .sge g (broadcastInDim s ![] h (constantI ⟨0, ![]⟩ 32 0#32)))) (cmpi .slt g (broadcastInDim s ![] h (constantI ⟨0, ![]⟩ 32 4760#32)))) g z j
      = g j := by
  show Scalar.select (IntOp.andi (IntOp.andi (v j) (IntOp.cmpi .sge (g j) 0#32)) (IntOp.cmpi .slt (g j) 4760#32)) (g j) (z j) = g j
  rw [hv, sge_zero _ hg, slt_hi _ hg]; rfl

theorem keep_apply' {s : Shape} (v : IVec s 1) (g : IVec s 32) (h : (⟨0, ![]⟩ : Shape).BroadcastsInDim s ![]) (z : IVec s 32) (j : s.Idx)
    (hv : v j = 1#1) (hg : (g j).toNat < 4760) :
    select (andi v (cmpi .sge g (broadcastInDim s ![] h (constantI ⟨0, ![]⟩ 32 0#32)))) g z j = g j := by
  show Scalar.select (IntOp.andi (v j) (IntOp.cmpi .sge (g j) 0#32)) (g j) (z j) = g j
  rw [hv, sge_zero _ hg]; rfl

/-! ## The table's entry -/

/-- A table of `hi + 1` words read at clipped places, the place wrapped where negative. -/
theorem take_apply {T : ℕ} [NeZero T] (hi : ℕ) (hT : T = hi + 1) (hhi : hi < 2 ^ 31)
    (wf : GatherDims.WF ⟨1, ![T]⟩ ⟨3, ![4096, E, 1]⟩ ⟨2, ![4096, E]⟩ [] [0] [] [0] [] 2 ![1])
    (h : (⟨0, ![]⟩ : Shape).BroadcastsInDim ⟨2, ![4096, E]⟩ ![]) (h' : (⟨2, ![4096, E]⟩ : Shape).BroadcastsInDim ⟨3, ![4096, E, 1]⟩ ![0, 1])
    (tab : IVec ⟨1, ![T]⟩ 32) (C z : IVec ⟨2, ![4096, E]⟩ 32) (r : Fin 4096) (e : Fin E) (w : BitVec 32)
    (hC : C (ix2 r e) = IntOp.minsi (BitVec.ofNat 32 hi) (IntOp.maxsi 0#32 w)) :
    Host.gather (takeDims T 4096 E wf) tab
      (broadcastInDim ⟨3, ![4096, E, 1]⟩ ![0, 1] h'
        (select (cmpi .slt C (broadcastInDim ⟨2, ![4096, E]⟩ ![] h (constantI ⟨0, ![]⟩ 32 0#32))) z C)) (ix2 r e)
      = at1 tab (clipN hi w) := by
  have hn : (C (ix2 r e)).toNat = clipN hi w := by rw [hC]; exact toNat_clip hi hhi w
  have hle := clipN_le hi w
  rw [gather_take_apply (by omega) wf]
  have hb : broadcastInDim ⟨3, ![4096, E, 1]⟩ ![0, 1] h'
        (select (cmpi .slt C (broadcastInDim ⟨2, ![4096, E]⟩ ![] h (constantI ⟨0, ![]⟩ 32 0#32))) z C) (takeIdx (ix2 r e)) = C (ix2 r e) := by
    refine (broadcastInDim_apply _ _ _ _ (ix2 r e) fun a => ?_).trans (wrap_apply C h z (ix2 r e) (by omega))
    match a with
    | ⟨0, _⟩ => rfl
    | ⟨1, _⟩ =>
      show e.val = if E = 1 then 0 else e.val
      split
      · have := e.isLt; omega
      · rfl
  unfold at1
  refine congrArg (fun k => tab (ix1 k)) (Fin.ext ?_)
  show min (BitVec.toInt _).toNat (T - 1) = clipN hi w % T
  rw [hb, toInt_of_small _ (by omega), hn, Nat.mod_eq_of_lt (by omega)]
  simp only [Int.toNat_natCast]
  omega

/-- The pair of words an entry of the first list holds, taken apart and put together. -/
theorem pairWord_apply {M : ℕ} [NeZero M] (hM : M = 2 * E) (X : IVec ⟨3, ![4096, E, 2]⟩ 32) (h7 : (⟨3, ![4096, E, 2]⟩ : Shape).ShapeCasts ⟨2, ![4096, M]⟩)
    (hs0 : (⟨3, ![4096, E, 2]⟩ : Shape).Slices ![0, 0, 0] ⟨3, ![4096, E, 1]⟩) (hs1 : (⟨3, ![4096, E, 2]⟩ : Shape).Slices ![0, 0, 1] ⟨3, ![4096, E, 1]⟩)
    (hc : (⟨3, ![4096, E, 1]⟩ : Shape).ShapeCasts ⟨2, ![4096, E]⟩) (h : (⟨0, ![]⟩ : Shape).BroadcastsInDim ⟨2, ![4096, E]⟩ ![]) (r : Fin 4096) (e : Fin E) :
    addi (muli (shapeCast ⟨2, ![4096, E]⟩ (extractStridedSlice ⟨3, ![4096, E, 1]⟩ ![0, 0, 0] X hs0) hc) (broadcastInDim ⟨2, ![4096, E]⟩ ![] h (constantI ⟨0, ![]⟩ 32 44#32)))
        (shapeCast ⟨2, ![4096, E]⟩ (extractStridedSlice ⟨3, ![4096, E, 1]⟩ ![0, 0, 1] X hs1) hc) (ix2 r e)
      = at1 (line (shapeCast ⟨2, ![4096, M]⟩ X h7) r) (2 * e.val) * 44#32 + at1 (line (shapeCast ⟨2, ![4096, M]⟩ X h7) r) (2 * e.val + 1) := by
  have hflat : ∀ Y : IVec ⟨3, ![4096, E, 1]⟩ 32, shapeCast ⟨2, ![4096, E]⟩ Y hc (ix2 r e) = Y (ix3 r e (0 : Fin 1)) := fun Y => by
    refine shapeCast_apply _ _ _ _ ?_
    rw [Shape.rowMajor_val_two, Shape.rowMajor_val_three]
    show (r.val * E + e.val) * 1 + 0 = r.val * E + e.val
    omega
  have e0 := line_pairs hM X h7 r e 0
  have e1 := line_pairs hM X h7 r e 1
  show IntOp.addi (IntOp.muli (shapeCast ⟨2, ![4096, E]⟩ (extractStridedSlice ⟨3, ![4096, E, 1]⟩ ![0, 0, 0] X hs0) hc (ix2 r e)) 44#32)
    (shapeCast ⟨2, ![4096, E]⟩ (extractStridedSlice ⟨3, ![4096, E, 1]⟩ ![0, 0, 1] X hs1) hc (ix2 r e)) = _
  rw [hflat, hflat]
  have s0 : extractStridedSlice ⟨3, ![4096, E, 1]⟩ ![0, 0, 0] X hs0 (ix3 r e (0 : Fin 1)) = X (ix3 r e 0) := by
    unfold extractStridedSlice
    refine congrArg X (funext fun a => Fin.ext ?_)
    match a with
    | ⟨0, _⟩ => exact Nat.zero_add _
    | ⟨1, _⟩ => exact Nat.zero_add _
    | ⟨2, _⟩ => rfl
  have s1 : extractStridedSlice ⟨3, ![4096, E, 1]⟩ ![0, 0, 1] X hs1 (ix3 r e (0 : Fin 1)) = X (ix3 r e 1) := by
    unfold extractStridedSlice
    refine congrArg X (funext fun a => Fin.ext ?_)
    match a with
    | ⟨0, _⟩ => exact Nat.zero_add _
    | ⟨1, _⟩ => exact Nat.zero_add _
    | ⟨2, _⟩ => rfl
  rw [s0, s1, ← e0, ← e1]
  rfl

/-! ## The sensors -/

/-- A table's entries at clipped places, as the reference reads them. -/
theorem clipTake_apply {T : ℕ} [NeZero T] (hi : ℕ) (hT : T = hi + 1) (hhi : hi < 2 ^ 31)
    (wf : GatherDims.WF ⟨1, ![T]⟩ ⟨3, ![4096, E, 1]⟩ ⟨2, ![4096, E]⟩ [] [0] [] [0] [] 2 ![1])
    (h : (⟨0, ![]⟩ : Shape).BroadcastsInDim ⟨2, ![4096, E]⟩ ![]) (h' : (⟨2, ![4096, E]⟩ : Shape).BroadcastsInDim ⟨3, ![4096, E, 1]⟩ ![0, 1])
    (tab : IVec ⟨1, ![T]⟩ 32) (C W z : IVec ⟨2, ![4096, E]⟩ 32)
    (hC : C = minsi (broadcastInDim ⟨2, ![4096, E]⟩ ![] h (id (constantI ⟨0, ![]⟩ 32 (BitVec.ofNat 32 hi))))
      (maxsi (broadcastInDim ⟨2, ![4096, E]⟩ ![] h (id (constantI ⟨0, ![]⟩ 32 0#32))) W)) (r : Fin 4096) (e : Fin E) :
    Host.gather (takeDims T 4096 E wf) tab
      (broadcastInDim ⟨3, ![4096, E, 1]⟩ ![0, 1] h'
        (select (cmpi .slt C (broadcastInDim ⟨2, ![4096, E]⟩ ![] h (constantI ⟨0, ![]⟩ 32 0#32))) z C)) (ix2 r e)
      = at1 tab (clipN hi (W (ix2 r e))) := by
  subst hC; exact take_apply hi hT hhi wf h h' tab _ z r e _ rfl

theorem sensor_top {T : ℕ} [NeZero T] (hi : ℕ) (hT : T = hi + 1) (hhi : hi < 2 ^ 31)
    (wf : GatherDims.WF ⟨1, ![T]⟩ ⟨3, ![4096, E, 1]⟩ ⟨2, ![4096, E]⟩ [] [0] [] [0] [] 2 ![1])
    (h : (⟨0, ![]⟩ : Shape).BroadcastsInDim ⟨2, ![4096, E]⟩ ![]) (h' : (⟨2, ![4096, E]⟩ : Shape).BroadcastsInDim ⟨3, ![4096, E, 1]⟩ ![0, 1])
    (v : IVec ⟨2, ![4096, E]⟩ 1) (tab : IVec ⟨1, ![T]⟩ 32) (G C W z y : IVec ⟨2, ![4096, E]⟩ 32)
    (hC : C = minsi (broadcastInDim ⟨2, ![4096, E]⟩ ![] h (id (constantI ⟨0, ![]⟩ 32 (BitVec.ofNat 32 hi))))
      (maxsi (broadcastInDim ⟨2, ![4096, E]⟩ ![] h (id (constantI ⟨0, ![]⟩ 32 0#32))) W))
    (hG : G = Host.gather (takeDims T 4096 E wf) tab (broadcastInDim ⟨3, ![4096, E, 1]⟩ ![0, 1] h'
        (select (cmpi .slt C (broadcastInDim ⟨2, ![4096, E]⟩ ![] h (constantI ⟨0, ![]⟩ 32 0#32))) z C)))
    (hv : v = fun _ => 1#1) (ht : ∀ i, (tab i).toNat < 4760) (r : Fin 4096) (e : Fin E) :
    (select (andi v (cmpi .sge G (broadcastInDim ⟨2, ![4096, E]⟩ ![] h (constantI ⟨0, ![]⟩ 32 0#32)))) G y (ix2 r e)).toNat
      = clipN 4759 (at1 tab (clipN hi (W (ix2 r e)))) := by
  have hg : G (ix2 r e) = at1 tab (clipN hi (W (ix2 r e))) := by
    rw [hG]; exact clipTake_apply hi hT hhi wf h h' tab C W z hC r e
  rw [keep_apply' v G h y _ (congrFun hv _) (by rw [hg]; exact ht _), hg]; exact (clip_self _ (ht _)).symm

theorem sensor_inner {T : ℕ} [NeZero T] (hi : ℕ) (hT : T = hi + 1) (hhi : hi < 2 ^ 31)
    (wf : GatherDims.WF ⟨1, ![T]⟩ ⟨3, ![4096, E, 1]⟩ ⟨2, ![4096, E]⟩ [] [0] [] [0] [] 2 ![1])
    (h : (⟨0, ![]⟩ : Shape).BroadcastsInDim ⟨2, ![4096, E]⟩ ![]) (h' : (⟨2, ![4096, E]⟩ : Shape).BroadcastsInDim ⟨3, ![4096, E, 1]⟩ ![0, 1])
    (v : IVec ⟨2, ![4096, E]⟩ 1) (tab : IVec ⟨1, ![T]⟩ 32) (G C W z y : IVec ⟨2, ![4096, E]⟩ 32)
    (hC : C = minsi (broadcastInDim ⟨2, ![4096, E]⟩ ![] h (id (constantI ⟨0, ![]⟩ 32 (BitVec.ofNat 32 hi))))
      (maxsi (broadcastInDim ⟨2, ![4096, E]⟩ ![] h (id (constantI ⟨0, ![]⟩ 32 0#32))) W))
    (hG : G = Host.gather (takeDims T 4096 E wf) tab (broadcastInDim ⟨3, ![4096, E, 1]⟩ ![0, 1] h'
        (select (cmpi .slt C (broadcastInDim ⟨2, ![4096, E]⟩ ![] h (constantI ⟨0, ![]⟩ 32 0#32))) z C)))
    (hv : v = fun _ => 1#1) (ht : ∀ i, (tab i).toNat < 4760) (r : Fin 4096) (e : Fin E) :
    (select (andi (andi v (cmpi .sge G (broadcastInDim ⟨2, ![4096, E]⟩ ![] h (constantI ⟨0, ![]⟩ 32 0#32))))
        (cmpi .slt G (broadcastInDim ⟨2, ![4096, E]⟩ ![] h (constantI ⟨0, ![]⟩ 32 4760#32)))) G y (ix2 r e)).toNat
      = clipN 4759 (at1 tab (clipN hi (W (ix2 r e)))) := by
  have hg : G (ix2 r e) = at1 tab (clipN hi (W (ix2 r e))) := by
    rw [hG]; exact clipTake_apply hi hT hhi wf h h' tab C W z hC r e
  rw [keep_apply v G h y _ (congrFun hv _) (by rw [hg]; exact ht _), hg]; exact (clip_self _ (ht _)).symm

theorem sensor_outer (h : (⟨0, ![]⟩ : Shape).BroadcastsInDim ⟨2, ![4096, E]⟩ ![]) (v : IVec ⟨2, ![4096, E]⟩ 1) (G y : IVec ⟨2, ![4096, E]⟩ 32)
    (hv : v = fun _ => 1#1) (ht : ∀ i, (G i).toNat < 4760) (r : Fin 4096) (e : Fin E) :
    (select (andi (andi v (cmpi .sge G (broadcastInDim ⟨2, ![4096, E]⟩ ![] h (constantI ⟨0, ![]⟩ 32 0#32))))
        (cmpi .slt G (broadcastInDim ⟨2, ![4096, E]⟩ ![] h (constantI ⟨0, ![]⟩ 32 4760#32)))) G y (ix2 r e)).toNat
      = clipN 4759 (G (ix2 r e)) := by
  rw [keep_apply v G h y _ (congrFun hv _) (ht _), clip_self _ (ht _)]

/-- A row's word, read at its number. -/
theorem line_val [NeZero E] {α : Type} (X : (⟨2, ![4096, E]⟩ : Shape).Idx → α) (r : Fin 4096) (e : Fin E) : X (ix2 r e) = at1 (line X r) e.val :=
  (at1_val (line X r) e).symm

end

end Cert.Sensors

end
-- ==== Proof.Equation.lean ====
/-
  The reference's result is the kernel's: element by element, each of its three scatters is the last hit in the row's list.
-/
module

public import proofs.«01_k».proof.Proof.Ends
public import proofs.«01_k».proof.Proof.Sensors
public import proofs.«01_k».proof.Proof.Gen.ReferenceIdeal
public import proofs.«01_k».proof.Proof.Gen.ReferenceIdeal.Run

@[expose] public section

noncomputable section

namespace Cert.Sensors

open Idealize.ShloMosaic Idealize.ShloMosaic.ValueIdx Idealize.ShloMosaic.LaneScatter
open Cert.KernelIdeal (S4096x4760x2 S4096x9520 S4096x256x2 S4096x512 S4096x128x2 S4096x256 S4096x64x2 S4096x128 S4096x64 S4092 S334)

variable {F : FTy → Type} [FloatOps F]

/-- The call's arrays, of the nine arguments it reads. -/
def given (a0 : Vec F S4096x4760x2 .f32) (a2 : Vec F S4096x256x2 .f32) (a3 : Vec F S4096x256x2 .i32) (a5 : Vec F S4096x128x2 .f32) (a6 : Vec F S4096x128 .i32)
    (a8 : Vec F S4096x64x2 .f32) (a9 : Vec F S4096x64 .i32) (a11 : Vec F S4092 .i32) (a12 : Vec F S334 .i32) : Arrays F where
  x := shapeCast S4096x9520 a0 Cert.KernelIdeal.Facts₀.shapeCasts_S4096x4760x2_S4096x9520
  ii := shapeCast S4096x512 a3 Cert.KernelIdeal.Facts₀.shapeCasts_S4096x256x2_S4096x512
  ip := shapeCast S4096x512 a2 Cert.KernelIdeal.Facts₀.shapeCasts_S4096x256x2_S4096x512
  os := a6
  op := shapeCast S4096x256 a5 Cert.KernelIdeal.Facts₀.shapeCasts_S4096x128x2_S4096x256
  ti := a9
  tp := shapeCast S4096x128 a8 Cert.KernelIdeal.Facts₀.shapeCasts_S4096x64x2_S4096x128
  itab := a11
  ttab := a12

section
open Cert.KernelIdeal

theorem arrs_eq (d : Dev nD) (m : (ℓ : Loc nD τ sig) → Buf (Elt F) ℓ) :
    arrs d m = given (m ((d.tc : Thread nD τ).loc main_arg0)) (m ((d.tc : Thread nD τ).loc main_arg2)) (m ((d.tc : Thread nD τ).loc main_arg3))
      (m ((d.tc : Thread nD τ).loc main_arg5)) (m ((d.tc : Thread nD τ).loc main_arg6)) (m ((d.tc : Thread nD τ).loc main_arg8))
      (m ((d.tc : Thread nD τ).loc main_arg9)) (m ((d.tc : Thread nD τ).loc main_arg11)) (m ((d.tc : Thread nD τ).loc main_arg12)) := by
  have hx := arrs_x d m
  have hii := arrs_ii d m
  have hip := arrs_ip d m
  have hos := arrs_os d m
  have hop := arrs_op d m
  have hti := arrs_ti d m
  have htp := arrs_tp d m
  have hit := arrs_itab d m
  have htt := arrs_ttab d m
  revert hx hii hip hos hop hti htp hit htt
  generalize arrs d m = A
  intro hx hii hip hos hop hti htp hit htt
  cases A
  dsimp only at hx hii hip hos hop hti htp hit htt
  subst hx hii hip hos hop hti htp hit htt
  rfl

end

/-- The result under its own shape, at one element. -/
theorem out_apply (A : Arrays F) (r : Fin 4096) (s : Fin 4760) (p : Fin 2) (h : 2 * s.val + p.val < 9520) :
    shapeCast S4096x4760x2 A.out Cert.KernelIdeal.Facts₀.shapeCasts_S4096x9520_S4096x4760x2 (ix3 r s p)
      = rowOut (α := Elt F .f32) (line A.x r) (line A.ii r) (line A.ip r) (line A.os r) (line A.op r) (line A.ti r) (line A.tp r) A.itab A.ttab
          (ix1 ⟨2 * s.val + p.val, h⟩) := by
  refine (shapeCast_apply _ _ _ (ix2 r ⟨2 * s.val + p.val, h⟩) ?_).trans rfl
  rw [Shape.rowMajor_val_two, Shape.rowMajor_val_three]
  show r.val * 9520 + (2 * s.val + p.val) = (r.val * 4760 + s.val) * 2 + p.val
  omega

open Cert.ReferenceIdeal (nD τ sig main_arg0 main_arg1 main_arg2 main_arg3 main_arg4 main_arg5 main_arg6 main_arg7 main_arg8 main_arg9 main_arg10 main_arg11 main_arg12) in
theorem ref_apply (m : (ℓ : Loc nD τ sig) → Buf (Elt F) ℓ) (c : Dev nD)
    (h4 : (m ((c.tc : Thread nD τ).loc main_arg4) : IVec S4096x256 1) = fun _ => 1#1)
    (h7 : (m ((c.tc : Thread nD τ).loc main_arg7) : IVec S4096x128 1) = fun _ => 1#1)
    (h10 : (m ((c.tc : Thread nD τ).loc main_arg10) : IVec S4096x64 1) = fun _ => 1#1)
    (h6 : ∀ i, ((m ((c.tc : Thread nD τ).loc main_arg6) : IVec S4096x128 32) i).toNat < 4760)
    (h11 : ∀ i, ((m ((c.tc : Thread nD τ).loc main_arg11) : IVec S4092 32) i).toNat < 4760)
    (h12 : ∀ i, ((m ((c.tc : Thread nD τ).loc main_arg12) : IVec S334 32) i).toNat < 4760)
    (r : Fin 4096) (s : Fin 4760) (p : Fin 2) (h : 2 * s.val + p.val < 9520) :
    (Cert.ReferenceIdeal.Value.res_main_v100 m c : Vec F S4096x4760x2 .f32) (ix3 r s p)
      = rowOut (α := Elt F .f32)
          (line (shapeCast S4096x9520 (m ((c.tc : Thread nD τ).loc main_arg0) : Vec F S4096x4760x2 .f32) Cert.KernelIdeal.Facts₀.shapeCasts_S4096x4760x2_S4096x9520) r)
          (line (shapeCast S4096x512 (m ((c.tc : Thread nD τ).loc main_arg3) : IVec S4096x256x2 32) Cert.KernelIdeal.Facts₀.shapeCasts_S4096x256x2_S4096x512) r)
          (line (shapeCast S4096x512 (m ((c.tc : Thread nD τ).loc main_arg2) : Vec F S4096x256x2 .f32) Cert.KernelIdeal.Facts₀.shapeCasts_S4096x256x2_S4096x512) r)
          (line (m ((c.tc : Thread nD τ).loc main_arg6) : IVec S4096x128 32) r)
          (line (shapeCast ⟨2, ![4096, 256]⟩ (m ((c.tc : Thread nD τ).loc main_arg5) : Vec F S4096x128x2 .f32) Cert.KernelIdeal.Facts₀.shapeCasts_S4096x128x2_S4096x256) r)
          (line (m ((c.tc : Thread nD τ).loc main_arg9) : IVec S4096x64 32) r)
          (line (shapeCast ⟨2, ![4096, 128]⟩ (m ((c.tc : Thread nD τ).loc main_arg8) : Vec F S4096x64x2 .f32) Cert.KernelIdeal.Facts₀.shapeCasts_S4096x64x2_S4096x128) r)
          (m ((c.tc : Thread nD τ).loc main_arg11) : IVec S4092 32) (m ((c.tc : Thread nD τ).loc main_arg12) : IVec S334 32)
          (ix1 ⟨2 * s.val + p.val, h⟩) := by
  have hr11 : ∀ n, (at1 (m ((c.tc : Thread nD τ).loc main_arg11) : IVec S4092 32) n).toNat < 4760 := fun n => h11 _
  have hr12 : ∀ n, (at1 (m ((c.tc : Thread nD τ).loc main_arg12) : IVec S334 32) n).toNat < 4760 := fun n => h12 _
  unfold Cert.ReferenceIdeal.Value.res_main_v100
  have fillx : ∀ (f : S4096x4760x2.Idx → Elt F .f32), f = (m ((c.tc : Thread nD τ).loc main_arg0) : Vec F S4096x4760x2 .f32) → f (ix3 r s p)
      = line (shapeCast S4096x9520 (m ((c.tc : Thread nD τ).loc main_arg0) : Vec F S4096x4760x2 .f32) Cert.KernelIdeal.Facts₀.shapeCasts_S4096x4760x2_S4096x9520) r (ix1 ⟨2 * s.val + p.val, h⟩) := by
    intro f hf
    rw [hf]
    refine (shapeCast_apply _ _ _ (ix3 r s p) ?_).symm
    rw [Shape.rowMajor_val_two, Shape.rowMajor_val_three]
    show (r.val * 4760 + s.val) * 2 + p.val = r.val * 9520 + (2 * s.val + p.val)
    omega
  have small : ∀ w : BitVec 32, clipN 4759 w < 2 ^ 31 := fun w => lt_of_le_of_lt (clipN_le 4759 w) (by decide)
  refine (scatter_cols (E := 64) (M := 128) (by decide) rfl rfl _ _ _ _ _ _ _ _ Cert.KernelIdeal.Facts₀.shapeCasts_S4096x64x2_S4096x128 _ _ _ _ _
    (fun q e => clipN 4759 (at1 (m ((c.tc : Thread nD τ).loc main_arg12) : IVec S334 32) (clipN 333 (at1 (line (m ((c.tc : Thread nD τ).loc main_arg9) : IVec S4096x64 32) q) e))))
    ?_ (fun _ _ => small _) r s p).trans ?_
  · intro q e
    refine (sensor_top (T := 334) 333 rfl (by decide) _ _ _ _ _ _ _ _ _ _ rfl rfl h10 h12 q e).trans ?_
    exact congrArg (fun w => clipN 4759 (at1 (m ((c.tc : Thread nD τ).loc main_arg12) : IVec S334 32) (clipN 333 w))) (line_val (E := 64) _ q e)
  refine congrArg (fun f => lastHit _ _ f 128) ?_
  refine (scatter_cols (E := 128) (M := 256) (by decide) rfl rfl _ _ _ _ _ _ _ _ Cert.KernelIdeal.Facts₀.shapeCasts_S4096x128x2_S4096x256 _ _ _ _ _
    (fun q e => clipN 4759 (at1 (line (m ((c.tc : Thread nD τ).loc main_arg6) : IVec S4096x128 32) q) e))
    ?_ (fun _ _ => small _) r s p).trans ?_
  · intro q e
    refine (sensor_outer (E := 128) _ _ _ _ h7 h6 q e).trans ?_
    exact congrArg (fun w => clipN 4759 w) (line_val (E := 128) _ q e)
  refine congrArg (fun f => lastHit _ _ f 256) ?_
  refine (scatter_cols (E := 256) (M := 512) (by decide) rfl rfl _ _ _ _ _ _ _ _ Cert.KernelIdeal.Facts₀.shapeCasts_S4096x256x2_S4096x512 _ _ _ _ _
    (fun q e => clipN 4759 (at1 (m ((c.tc : Thread nD τ).loc main_arg11) : IVec S4092 32)
      (clipN 4091 (at1 (line (shapeCast S4096x512 (m ((c.tc : Thread nD τ).loc main_arg3) : IVec S4096x256x2 32) Cert.KernelIdeal.Facts₀.shapeCasts_S4096x256x2_S4096x512 : IVec S4096x512 32) q) (2 * e) * 44#32
        + at1 (line (shapeCast S4096x512 (m ((c.tc : Thread nD τ).loc main_arg3) : IVec S4096x256x2 32) Cert.KernelIdeal.Facts₀.shapeCasts_S4096x256x2_S4096x512 : IVec S4096x512 32) q) (2 * e + 1)))))
    ?_ (fun _ _ => small _) r s p).trans ?_
  · intro q e
    refine (sensor_inner (T := 4092) 4091 rfl (by decide) _ _ _ _ _ _ _ _ _ _ rfl rfl h4 h11 q e).trans ?_
    rw [pairWord_apply (E := 256) (M := 512) rfl _ Cert.KernelIdeal.Facts₀.shapeCasts_S4096x256x2_S4096x512]
  exact congrArg (fun f => lastHit _ _ f 512) (fillx _ rfl)

end Cert.Sensors

end
-- ==== Proof.Same.lean ====
/-
  The two results agree: from equal arguments, whose entries lie in range, the kernel and the reference end with one array.
-/
module

public import proofs.«01_k».proof.Defs
public import proofs.«01_k».proof.Proof.Gen.Pre_entries_in_range
public import proofs.«01_k».proof.Proof.Frames
public import proofs.«01_k».proof.Proof.Equation

@[expose] public section

noncomputable section

namespace Cert.Sensors

open Idealize.ShloMosaic Idealize.ShloMosaic.ValueIdx Idealize.SL.Sem
open Cert.KernelIdeal (S4096x4760x2 S4096x256x2 S4096x128x2 S4096x64x2 S4096x256 S4096x128 S4096x64 S4092 S334)

theorem given_congr {F : FTy → Type} [FloatOps F] {a0 b0 : Vec F S4096x4760x2 .f32}
    {a2 b2 : Vec F S4096x256x2 .f32}
    {a3 b3 : Vec F S4096x256x2 .i32}
    {a5 b5 : Vec F S4096x128x2 .f32}
    {a6 b6 : Vec F S4096x128 .i32}
    {a8 b8 : Vec F S4096x64x2 .f32}
    {a9 b9 : Vec F S4096x64 .i32}
    {a11 b11 : Vec F S4092 .i32}
    {a12 b12 : Vec F S334 .i32}
    (h0 : a0 = b0) (h2 : a2 = b2) (h3 : a3 = b3) (h5 : a5 = b5) (h6 : a6 = b6) (h8 : a8 = b8) (h9 : a9 = b9) (h11 : a11 = b11) (h12 : a12 = b12) :
    given a0 a2 a3 a5 a6 a8 a9 a11 a12 = given b0 b2 b3 b5 b6 b8 b9 b11 b12 := by
  subst h0 h2 h3 h5 h6 h8 h9 h11 h12; rfl

/-- The reference's array and the kernel's, when the arguments are the same ones. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_entries_in_range m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    : (Cert.ReferenceIdeal.Value.res_main_v100 m' c : Vec Ideal S4096x4760x2 .f32) = outVal c m := by
  obtain ⟨p4, p7, p10, p6, p11, p12⟩ := hpre c
  have h4 : (m' ((c.tc : Thread Cert.ReferenceIdeal.nD Cert.ReferenceIdeal.τ).loc Cert.ReferenceIdeal.main_arg4) : IVec S4096x256 1) = fun _ => 1#1 := e4.trans p4
  have h7 : (m' ((c.tc : Thread Cert.ReferenceIdeal.nD Cert.ReferenceIdeal.τ).loc Cert.ReferenceIdeal.main_arg7) : IVec S4096x128 1) = fun _ => 1#1 := e7.trans p7
  have h10 : (m' ((c.tc : Thread Cert.ReferenceIdeal.nD Cert.ReferenceIdeal.τ).loc Cert.ReferenceIdeal.main_arg10) : IVec S4096x64 1) = fun _ => 1#1 := e10.trans p10
  have h6 : ∀ i, ((m' ((c.tc : Thread Cert.ReferenceIdeal.nD Cert.ReferenceIdeal.τ).loc Cert.ReferenceIdeal.main_arg6) : IVec S4096x128 32) i).toNat < 4760 := fun i =>
    lt_of_eq_of_lt (congrArg BitVec.toNat (congrFun e6 i)) (in_range _ (congrFun p6 i))
  have h11 : ∀ i, ((m' ((c.tc : Thread Cert.ReferenceIdeal.nD Cert.ReferenceIdeal.τ).loc Cert.ReferenceIdeal.main_arg11) : IVec S4092 32) i).toNat < 4760 := fun i =>
    lt_of_eq_of_lt (congrArg BitVec.toNat (congrFun e11 i)) (in_range _ (congrFun p11 i))
  have h12 : ∀ i, ((m' ((c.tc : Thread Cert.ReferenceIdeal.nD Cert.ReferenceIdeal.τ).loc Cert.ReferenceIdeal.main_arg12) : IVec S334 32) i).toNat < 4760 := fun i =>
    lt_of_eq_of_lt (congrArg BitVec.toNat (congrFun e12 i)) (in_range _ (congrFun p12 i))
  funext j
  obtain ⟨r, s, p, rfl⟩ : ∃ r s p, j = ix3 r s p := ⟨_, _, _, eq_ix3 j⟩
  have h : 2 * s.val + p.val < 9520 := by have := s.isLt; have := p.isLt; omega
  have hA := (arrs_eq c m).trans (given_congr e0 e2 e3 e5 e6 e8 e9 e11 e12).symm
  refine (ref_apply m' c h4 h7 h10 h6 h11 h12 r s p h).trans ?_
  refine (out_apply (given (F := Ideal) _ _ _ _ _ _ _ _ _) r s p h).symm.trans ?_
  exact congrArg (fun A : Arrays Ideal => shapeCast S4096x4760x2 A.out Cert.KernelIdeal.Facts₀.shapeCasts_S4096x9520_S4096x4760x2 (ix3 r s p)) hA.symm

theorem algebraic : Cert.algebraic_KernelIdeal_ReferenceIdeal_pre_entries_in_range := by
  intro m g m' g' hpre hagree
  refine ⟨fun c => outVal c m, ?_, ?_⟩
  · exact (θ_run Cert.KernelIdeal.defs _ _).mono (fun _ h c => ⟨run_out m h c, run_args m h c⟩) (run_main (F := Ideal) m g)
  · refine (θ_run Cert.ReferenceIdeal.defs _ _).mono (fun r h c => ⟨(h c).1.trans ?_, (h c).2⟩) (Cert.ReferenceIdeal.Value.run (F := Ideal) m' g')
    obtain ⟨e0, -, e2, e3, e4, e5, e6, e7, e8, e9, e10, e11, e12⟩ := hagree c
    exact results_agree m m' hpre c e0 e2 e3 e4 e5 e6 e7 e8 e9 e10 e11 e12

end Cert.Sensors

end
-- ==== Proof.lean ====
/-
  The claims of this problem: the frames, the idealization, and the agreement of the two results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_entries_in_range
public import proofs.«01_k».proof.Proof.Frames
public import proofs.«01_k».proof.Proof.Same

@[expose] public section

noncomputable section

namespace Cert.Proof

open Cert.Sensors

theorem claim : Cert.Claim :=
  ⟨Cert.Kernel.Gen.facts, Cert.KernelIdeal.Gen.facts, Cert.ReferenceIdeal.Gen.facts, Cert.Pre_entries_in_range.Gen.facts,
    frame_kernel, frame_ideal, frame_ideal_pre, frame_ref, frame_ref_pre, trivial, algebraic⟩

end Cert.Proof

end
